-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.PackStatement Cert.KernelIdeal.S256x1408
  ∧ IdealRules.bf16_pair.Statement Cert.KernelIdeal.S512x1408 Cert.KernelIdeal.S256x1408

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v29_0) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S12x768x20x512 : Shape := ⟨4, ![12, 768, 20, 512]⟩
abbrev S20x256x1408 : Shape := ⟨3, ![20, 256, 1408]⟩
abbrev S20x16x1408 : Shape := ⟨3, ![20, 16, 1408]⟩
abbrev S_ : Shape := ⟨0, ![]⟩

class Facts : Prop where
  bcast_S_S12x768x20x512 : S_.BroadcastsInDim S12x768x20x512 (![] : Fin 0 → Fin S12x768x20x512.rank)
  reducesTo_S12x768x20x512_S_d0_1_2_3 : S12x768x20x512.ReducesTo [0, 1, 2, 3] S_
  h_S_ : 0 < S_.numel

variable [Facts]

def fn {F : FTy → Type} [FloatOps F] (main_arg0 : FVec F S12x768x20x512 .bf16) (main_arg1 : IVec S20x256x1408 8) (main_arg2 : IVec S20x16x1408 8) : IVec S_ 1 :=
  let main_v0 : FVec F S12x768x20x512 .bf16 := Host.absf main_arg0
  let main_cst : FVec F S_ .bf16 := constant S_ .bf16 0x7F7F#16
  let main_v1 : FVec F S12x768x20x512 .bf16 := broadcastInDim S12x768x20x512 ![] bcast_S_S12x768x20x512 main_cst
  let main_v2 : IVec S12x768x20x512 1 := cmpf .ole main_v0 main_v1
  let main_cst_0 : FVec F S_ .bf16 := constant S_ .bf16 0x7F80#16
  let main_v3 : FVec F S12x768x20x512 .bf16 := broadcastInDim S12x768x20x512 ![] bcast_S_S12x768x20x512 main_cst_0
  let main_v4 : IVec S12x768x20x512 1 := cmpf .oeq main_v0 main_v3
  let main_v5 : IVec S12x768x20x512 1 := ori main_v2 main_v4
  let main_c : IVec S_ 1 := constantI S_ 1 1#1
  let main_v6 : IVec S_ 1 := (fun x v => Host.reduce IntOp.andi x v reducesTo_S12x768x20x512_S_d0_1_2_3 h_S_) main_v5 main_c
  main_v6
-- ==== Kernel.lean ====
abbrev S12x768x20x512 : Shape := ⟨4, ![12, 768, 20, 512]⟩
abbrev S20x256x1408 : Shape := ⟨3, ![20, 256, 1408]⟩
abbrev S20x16x1408 : Shape := ⟨3, ![20, 16, 1408]⟩
abbrev S12x20x768x512 : Shape := ⟨4, ![12, 20, 768, 512]⟩
abbrev S12x20x768x1408 : Shape := ⟨4, ![12, 20, 768, 1408]⟩
abbrev S12x20x4x768 : Shape := ⟨4, ![12, 20, 4, 768]⟩
abbrev S2x1x768x512 : Shape := ⟨4, ![2, 1, 768, 512]⟩
abbrev S1x256x1408 : Shape := ⟨3, ![1, 256, 1408]⟩
abbrev S1x16x1408 : Shape := ⟨3, ![1, 16, 1408]⟩
abbrev S2x1x768x1408 : Shape := ⟨4, ![2, 1, 768, 1408]⟩
abbrev S2x1x4x768 : Shape := ⟨4, ![2, 1, 4, 768]⟩
abbrev S512x1408 : Shape := ⟨2, ![512, 1408]⟩
abbrev S256x1408 : Shape := ⟨2, ![256, 1408]⟩
abbrev S64x1408 : Shape := ⟨2, ![64, 1408]⟩
abbrev S16x1408 : Shape := ⟨2, ![16, 1408]⟩
abbrev S16x32x1408 : Shape := ⟨3, ![16, 32, 1408]⟩
abbrev S16x1x1408 : Shape := ⟨3, ![16, 1, 1408]⟩
abbrev S1x1x768x128 : Shape := ⟨4, ![1, 1, 768, 128]⟩
abbrev S768x128 : Shape := ⟨2, ![768, 128]⟩
abbrev S768 : Shape := ⟨1, ![768]⟩
abbrev S768x1 : Shape := ⟨2, ![768, 1]⟩
abbrev S1x256 : Shape := ⟨2, ![1, 256]⟩
abbrev S768x256 : Shape := ⟨2, ![768, 256]⟩
abbrev S1x1x1x768 : Shape := ⟨4, ![1, 1, 1, 768]⟩
abbrev S768x512 : Shape := ⟨2, ![768, 512]⟩
abbrev S768x1408 : Shape := ⟨2, ![768, 1408]⟩
abbrev S1x1x768x1408 : Shape := ⟨4, ![1, 1, 768, 1408]⟩
abbrev S12x768x20x1408 : Shape := ⟨4, ![12, 768, 20, 1408]⟩
abbrev S12x768x20x4 : Shape := ⟨4, ![12, 768, 20, 4]⟩

abbrev nBuf : Space → Nat
  | .hbm => 10
  | .vmem => 13
  | .smem => 0
  | _ => 0

abbrev bufTy : (tb : Table) → Fin (tcTables nBuf tb) → BufTy
  | .hbm, ⟨0, _⟩ => ⟨S12x768x20x512, .bf16⟩
  | .hbm, ⟨1, _⟩ => ⟨S20x256x1408, .i8⟩
  | .hbm, ⟨2, _⟩ => ⟨S20x16x1408, .i8⟩
  | .hbm, ⟨3, _⟩ => ⟨S12x20x768x512, .bf16⟩
  | .hbm, ⟨4, _⟩ => ⟨S12x20x768x1408, .bf16⟩
  | .hbm, ⟨5, _⟩ => ⟨S12x20x768x512, .fp8e4m3⟩
  | .hbm, ⟨6, _⟩ => ⟨S12x20x4x768, .f32⟩
  | .hbm, ⟨7, _⟩ => ⟨S12x768x20x1408, .bf16⟩
  | .hbm, ⟨8, _⟩ => ⟨S12x768x20x512, .fp8e4m3⟩
  | .hbm, ⟨9, _⟩ => ⟨S12x768x20x4, .f32⟩
  | .local _ .vmem, ⟨0, _⟩ => ⟨S2x1x768x512, .bf16⟩
  | .local _ .vmem, ⟨1, _⟩ => ⟨S2x1x768x512, .bf16⟩
  | .local _ .vmem, ⟨2, _⟩ => ⟨S1x256x1408, .i8⟩
  | .local _ .vmem, ⟨3, _⟩ => ⟨S1x256x1408, .i8⟩
  | .local _ .vmem, ⟨4, _⟩ => ⟨S1x16x1408, .i8⟩
  | .local _ .vmem, ⟨5, _⟩ => ⟨S1x16x1408, .i8⟩
  | .local _ .vmem, ⟨6, _⟩ => ⟨S2x1x768x1408, .bf16⟩
  | .local _ .vmem, ⟨7, _⟩ => ⟨S2x1x768x1408, .bf16⟩
  | .local _ .vmem, ⟨8, _⟩ => ⟨S2x1x768x512, .fp8e4m3⟩
  | .local _ .vmem, ⟨9, _⟩ => ⟨S2x1x768x512, .fp8e4m3⟩
  | .local _ .vmem, ⟨10, _⟩ => ⟨S2x1x4x768, .f32⟩
  | .local _ .vmem, ⟨11, _⟩ => ⟨S2x1x4x768, .f32⟩
  | .local _ .vmem, ⟨12, _⟩ => ⟨S512x1408, .bf16⟩
  | _, _ => ⟨S12x768x20x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![20, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2x1x768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x1408 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x768x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x768x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x4x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F]
-- ==== ReferenceIdeal.lean ====
abbrev S12x768x20x512 : Shape := ⟨4, ![12, 768, 20, 512]⟩
abbrev S20x256x1408 : Shape := ⟨3, ![20, 256, 1408]⟩
abbrev S20x16x1408 : Shape := ⟨3, ![20, 16, 1408]⟩
abbrev S12x768x20x4x128 : Shape := ⟨5, ![12, 768, 20, 4, 128]⟩
abbrev S_ : Shape := ⟨0, ![]⟩
abbrev S12x768x20x4 : Shape := ⟨4, ![12, 768, 20, 4]⟩
abbrev S12x768x20x4x1 : Shape := ⟨5, ![12, 768, 20, 4, 1]⟩
abbrev S20x256x1x1408 : Shape := ⟨4, ![20, 256, 1, 1408]⟩
abbrev S20x256x2x1408 : Shape := ⟨4, ![20, 256, 2, 1408]⟩
abbrev S20x16x32x1408 : Shape := ⟨4, ![20, 16, 32, 1408]⟩
abbrev S20x16x1x1408 : Shape := ⟨4, ![20, 16, 1, 1408]⟩
abbrev S20x512x1408 : Shape := ⟨3, ![20, 512, 1408]⟩
abbrev S9216x20x512 : Shape := ⟨3, ![9216, 20, 512]⟩
abbrev S20x9216x512 : Shape := ⟨3, ![20, 9216, 512]⟩
abbrev S20x9216x1408 : Shape := ⟨3, ![20, 9216, 1408]⟩
abbrev S9216x20x1408 : Shape := ⟨3, ![9216, 20, 1408]⟩
abbrev S12x768x20x1408 : Shape := ⟨4, ![12, 768, 20, 1408]⟩

abbrev nBuf : Space → Nat
  | .hbm => 151
  | .vmem => 3
  | .smem => 0
  | _ => 0

abbrev hbmTy0_0 (i : Nat) : BufTy := match i % 128 with
  | 0 => ⟨S12x768x20x512, .bf16⟩
  | 1 => ⟨S20x256x1408, .i8⟩
  | 2 => ⟨S20x16x1408, .i8⟩
  | 3 => ⟨S12x768x20x512, .f32⟩
  | 4 => ⟨S12x768x20x4x128, .f32⟩
  | 5 => ⟨S12x768x20x4x128, .f32⟩
  | 6 => ⟨S_, .f32⟩
  | 7 => ⟨S12x768x20x4, .f32⟩
  | 8 => ⟨S_, .f32⟩
  | 9 => ⟨S12x768x20x4, .f32⟩
  | 10 => ⟨S12x768x20x4, .f32⟩
  | 11 => ⟨S12x768x20x4, .f32⟩
  | 12 => ⟨S_, .f32⟩
  | 13 => ⟨S_, .f32⟩
  | 14 => ⟨S12x768x20x4, .f32⟩
  | 15 => ⟨S12x768x20x4, .f32⟩
  | 16 => ⟨S12x768x20x4, .f32⟩
  | 17 => ⟨S_, .f32⟩
  | 18 => ⟨S12x768x20x4, .f32⟩
  | 19 => ⟨S12x768x20x4, .f32⟩
  | 20 => ⟨S_, .f32⟩
  | 21 => ⟨S12x768x20x4, .f32⟩
  | 22 => ⟨S12x768x20x4, .i1⟩
  | 23 => ⟨S_, .f32⟩
  | 24 => ⟨S12x768x20x4, .f32⟩
  | 25 => ⟨S12x768x20x4, .i1⟩
  | 26 => ⟨S12x768x20x4, .i1⟩
  | 27 => ⟨S_, .f32⟩
  | 28 => ⟨S_, .f32⟩
  | 29 => ⟨S12x768x20x4, .f32⟩
  | 30 => ⟨S12x768x20x4, .f32⟩
  | 31 => ⟨S_, .f32⟩
  | 32 => ⟨S12x768x20x4, .f32⟩
  | 33 => ⟨S12x768x20x4, .f32⟩
  | 34 => ⟨S12x768x20x4, .f32⟩
  | 35 => ⟨S_, .f32⟩
  | 36 => ⟨S12x768x20x4, .f32⟩
  | 37 => ⟨S12x768x20x4, .f32⟩
  | 38 => ⟨S12x768x20x4x1, .f32⟩
  | 39 => ⟨S12x768x20x4x128, .f32⟩
  | 40 => ⟨S12x768x20x4x128, .f32⟩
  | 41 => ⟨S_, .f32⟩
  | 42 => ⟨S_, .f32⟩
  | 43 => ⟨S_, .f32⟩
  | 44 => ⟨S12x768x20x4x128, .f32⟩
  | 45 => ⟨S12x768x20x4x128, .f32⟩
  | 46 => ⟨S_, .f32⟩
  | 47 => ⟨S12x768x20x4x128, .f32⟩
  | 48 => ⟨S12x768x20x4x128, .f32⟩
  | 49 => ⟨S12x768x20x512, .f32⟩
  | 50 => ⟨S12x768x20x512, .fp8e4m3⟩
  | 51 => ⟨S12x768x20x512, .bf16⟩
  | 52 => ⟨S12x768x20x4x128, .bf16⟩
  | 53 => ⟨S12x768x20x4, .bf16⟩
  | 54 => ⟨S12x768x20x4x1, .bf16⟩
  | 55 => ⟨S12x768x20x4x128, .bf16⟩
  | 56 => ⟨S12x768x20x4x128, .bf16⟩
  | 57 => ⟨S12x768x20x512, .bf16⟩
  | 58 => ⟨S20x16x1408, .i32⟩
  | 59 => ⟨S_, .i32⟩
  | 60 => ⟨S20x16x1408, .i32⟩
  | 61 => ⟨S20x16x1408, .i32⟩
  | 62 => ⟨S20x16x1408, .f32⟩
  | 63 => ⟨S_, .f32⟩
  | 64 => ⟨S20x16x1408, .f32⟩
  | 65 => ⟨S20x16x1408, .f32⟩
  | 66 => ⟨S_, .i32⟩
  | 67 => ⟨S20x16x1408, .i32⟩
  | 68 => ⟨S20x16x1408, .i1⟩
  | 69 => ⟨S_, .i32⟩
  | 70 => ⟨S20x16x1408, .i32⟩
  | 71 => ⟨S20x16x1408, .i1⟩
  | 72 => ⟨S_, .f32⟩
  | 73 => ⟨S_, .f32⟩
  | 74 => ⟨S20x16x1408, .f32⟩
  | 75 => ⟨S20x16x1408, .f32⟩
  | 76 => ⟨S_, .f32⟩
  | 77 => ⟨S_, .f32⟩
  | 78 => ⟨S20x16x1408, .f32⟩
  | 79 => ⟨S20x16x1408, .f32⟩
  | 80 => ⟨S20x16x1408, .bf16⟩
  | 81 => ⟨S20x256x1408, .i32⟩
  | 82 => ⟨S_, .i32⟩
  | 83 => ⟨S20x256x1408, .i32⟩
  | 84 => ⟨S20x256x1408, .i32⟩
  | 85 => ⟨S_, .i32⟩
  | 86 => ⟨S20x256x1408, .i32⟩
  | 87 => ⟨S20x256x1408, .i32⟩
  | 88 => ⟨S20x256x1x1408, .i32⟩
  | 89 => ⟨S20x256x1x1408, .i32⟩
  | 90 => ⟨S20x256x2x1408, .i32⟩
  | 91 => ⟨S_, .i32⟩
  | 92 => ⟨S20x256x2x1408, .i32⟩
  | 93 => ⟨S20x256x2x1408, .i32⟩
  | 94 => ⟨S_, .i32⟩
  | 95 => ⟨S20x256x2x1408, .i32⟩
  | 96 => ⟨S20x256x2x1408, .i1⟩
  | 97 => ⟨S_, .i32⟩
  | 98 => ⟨S20x256x2x1408, .i32⟩
  | 99 => ⟨S20x256x2x1408, .i32⟩
  | 100 => ⟨S_, .i32⟩
  | 101 => ⟨S20x256x2x1408, .i32⟩
  | 102 => ⟨S20x256x2x1408, .i1⟩
  | 103 => ⟨S_, .i32⟩
  | 104 => ⟨S20x256x2x1408, .i32⟩
  | 105 => ⟨S20x256x2x1408, .i32⟩
  | 106 => ⟨S_, .i32⟩
  | 107 => ⟨S20x256x2x1408, .i32⟩
  | 108 => ⟨S20x256x2x1408, .i1⟩
  | 109 => ⟨S_, .i32⟩
  | 110 => ⟨S20x256x2x1408, .i32⟩
  | 111 => ⟨S20x256x2x1408, .i32⟩
  | 112 => ⟨S_, .i32⟩
  | 113 => ⟨S20x256x2x1408, .i32⟩
  | 114 => ⟨S20x256x2x1408, .i1⟩
  | 115 => ⟨S_, .bf16⟩
  | 116 => ⟨S_, .bf16⟩
  | 117 => ⟨S20x256x2x1408, .bf16⟩
  | 118 => ⟨S20x256x2x1408, .bf16⟩
  | 119 => ⟨S20x256x2x1408, .bf16⟩
  | 120 => ⟨S_, .bf16⟩
  | 121 => ⟨S_, .bf16⟩
  | 122 => ⟨S20x256x2x1408, .bf16⟩
  | 123 => ⟨S20x256x2x1408, .bf16⟩
  | 124 => ⟨S20x256x2x1408, .bf16⟩
  | 125 => ⟨S20x256x2x1408, .bf16⟩
  | 126 => ⟨S_, .bf16⟩
  | 127 => ⟨S_, .bf16⟩
  | _ => ⟨S12x768x20x512, .bf16⟩

abbrev hbmTy0_1 (i : Nat) : BufTy := match i % 128 with
  | 0 => ⟨S20x256x2x1408, .bf16⟩
  | 1 => ⟨S20x256x2x1408, .bf16⟩
  | 2 => ⟨S20x256x2x1408, .bf16⟩
  | 3 => ⟨S_, .bf16⟩
  | 4 => ⟨S_, .bf16⟩
  | 5 => ⟨S20x256x2x1408, .bf16⟩
  | 6 => ⟨S20x256x2x1408, .bf16⟩
  | 7 => ⟨S20x256x2x1408, .bf16⟩
  | 8 => ⟨S20x256x2x1408, .bf16⟩
  | 9 => ⟨S20x256x2x1408, .bf16⟩
  | 10 => ⟨S20x256x2x1408, .bf16⟩
  | 11 => ⟨S20x256x2x1408, .bf16⟩
  | 12 => ⟨S20x16x32x1408, .bf16⟩
  | 13 => ⟨S20x16x1x1408, .bf16⟩
  | 14 => ⟨S20x16x32x1408, .bf16⟩
  | 15 => ⟨S20x16x32x1408, .bf16⟩
  | 16 => ⟨S20x512x1408, .bf16⟩
  | 17 => ⟨S9216x20x512, .bf16⟩
  | 18 => ⟨S20x9216x512, .bf16⟩
  | 19 => ⟨S20x9216x1408, .f32⟩
  | 20 => ⟨S20x9216x1408, .bf16⟩
  | 21 => ⟨S9216x20x1408, .bf16⟩
  | 22 => ⟨S12x768x20x1408, .bf16⟩
  | _ => ⟨S12x768x20x512, .bf16⟩

abbrev hbmTy (i : Nat) : BufTy := match i / 128 with
  | 0 => hbmTy0_0 i
  | 1 => hbmTy0_1 i
  | _ => ⟨S12x768x20x512, .bf16⟩

abbrev bufTy : (tb : Table) → Fin (tcTables nBuf tb) → BufTy
  | .hbm, ⟨i, _⟩ => hbmTy i
  | .local _ .vmem, ⟨0, _⟩ => ⟨S12x768x20x512, .f32⟩
  | .local _ .vmem, ⟨1, _⟩ => ⟨S12x768x20x512, .fp8e4m3⟩
  | .local _ .vmem, ⟨2, _⟩ => ⟨S12x768x20x512, .bf16⟩
  | _, _ => ⟨S12x768x20x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v27 : Ref sig .tc := ⟨.hbm, 48, rfl⟩
abbrev main_v28 : Ref sig .tc := ⟨.hbm, 49, rfl⟩
abbrev main_v29_0 : Ref sig .tc := ⟨.hbm, 50, rfl⟩
abbrev main_v29_1 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_cst_13 : Ref sig .tc := ⟨.hbm, 72, rfl⟩
abbrev main_call2_v0 : Ref sig .tc := ⟨.hbm, 73, rfl⟩
abbrev main_call2_v1 : Ref sig .tc := ⟨.hbm, 74, rfl⟩
abbrev main_v46 : Ref sig .tc := ⟨.hbm, 75, rfl⟩
abbrev main_cst_14 : Ref sig .tc := ⟨.hbm, 76, rfl⟩
abbrev main_call3_v0 : Ref sig .tc := ⟨.hbm, 77, rfl⟩
abbrev main_call3_v1 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_15 : Ref sig .tc := ⟨.hbm, 82, rfl⟩
abbrev main_v50 : Ref sig .tc := ⟨.hbm, 83, rfl⟩
abbrev main_v51 : Ref sig .tc := ⟨.hbm, 84, rfl⟩
abbrev main_c_16 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_17 : Ref sig .tc := ⟨.hbm, 91, rfl⟩
abbrev main_v57 : Ref sig .tc := ⟨.hbm, 92, rfl⟩
abbrev main_v58 : Ref sig .tc := ⟨.hbm, 93, rfl⟩
abbrev main_c_18 : Ref sig .tc := ⟨.hbm, 94, rfl⟩
abbrev main_v59 : Ref sig .tc := ⟨.hbm, 95, rfl⟩
abbrev main_v60 : Ref sig .tc := ⟨.hbm, 96, rfl⟩
abbrev main_c_19 : Ref sig .tc := ⟨.hbm, 97, rfl⟩
abbrev main_v61 : Ref sig .tc := ⟨.hbm, 98, rfl⟩
abbrev main_v62 : Ref sig .tc := ⟨.hbm, 99, rfl⟩
abbrev main_c_20 : Ref sig .tc := ⟨.hbm, 100, rfl⟩
abbrev main_v63 : Ref sig .tc := ⟨.hbm, 101, rfl⟩
abbrev main_v64 : Ref sig .tc := ⟨.hbm, 102, rfl⟩
abbrev main_c_21 : Ref sig .tc := ⟨.hbm, 103, rfl⟩
abbrev main_v65 : Ref sig .tc := ⟨.hbm, 104, rfl⟩
abbrev main_v66 : Ref sig .tc := ⟨.hbm, 105, rfl⟩
abbrev main_c_22 : Ref sig .tc := ⟨.hbm, 106, rfl⟩
abbrev main_v67 : Ref sig .tc := ⟨.hbm, 107, rfl⟩
abbrev main_v68 : Ref sig .tc := ⟨.hbm, 108, rfl⟩
abbrev main_c_23 : Ref sig .tc := ⟨.hbm, 109, rfl⟩
abbrev main_v69 : Ref sig .tc := ⟨.hbm, 110, rfl⟩
abbrev main_v70 : Ref sig .tc := ⟨.hbm, 111, rfl⟩
abbrev main_c_24 : Ref sig .tc := ⟨.hbm, 112, rfl⟩
abbrev main_v71 : Ref sig .tc := ⟨.hbm, 113, rfl⟩
abbrev main_v72 : Ref sig .tc := ⟨.hbm, 114, rfl⟩
abbrev main_cst_25 : Ref sig .tc := ⟨.hbm, 115, rfl⟩
abbrev main_cst_26 : Ref sig .tc := ⟨.hbm, 116, rfl⟩
abbrev main_call4_v0 : Ref sig .tc := ⟨.hbm, 117, rfl⟩
abbrev main_call4_v1 : Ref sig .tc := ⟨.hbm, 118, rfl⟩
abbrev main_v73 : Ref sig .tc := ⟨.hbm, 119, rfl⟩
abbrev main_cst_27 : Ref sig .tc := ⟨.hbm, 120, rfl⟩
abbrev main_cst_28 : Ref sig .tc := ⟨.hbm, 121, rfl⟩
abbrev main_call5_v0 : Ref sig .tc := ⟨.hbm, 122, rfl⟩
abbrev main_call5_v1 : Ref sig .tc := ⟨.hbm, 123, rfl⟩
abbrev main_v74 : Ref sig .tc := ⟨.hbm, 124, rfl⟩
abbrev main_v75 : Ref sig .tc := ⟨.hbm, 125, rfl⟩
abbrev main_cst_29 : Ref sig .tc := ⟨.hbm, 126, rfl⟩
abbrev main_cst_30 : Ref sig .tc := ⟨.hbm, 127, rfl⟩
abbrev main_call7_v0 : Ref sig .tc := ⟨.hbm, 128, rfl⟩
abbrev main_call7_v1 : Ref sig .tc := ⟨.hbm, 129, rfl⟩
abbrev main_v76 : Ref sig .tc := ⟨.hbm, 130, rfl⟩
abbrev main_cst_31 : Ref sig .tc := ⟨.hbm, 131, rfl⟩
abbrev main_cst_32 : Ref sig .tc := ⟨.hbm, 132, rfl⟩
abbrev main_call8_v0 : Ref sig .tc := ⟨.hbm, 133, rfl⟩
abbrev main_call8_v1 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S12x768x20x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x768x20x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x768x20x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Scale.lean ====
/- The power-of-two scale of one group, computed two ways.

   `expField` is the kernel's search for the exponent field of a value, `expWord` the word of the scale, `scale` and
   `inv` the scale and its reciprocal. `refExp`, `refScale`, `refInv` are the reference's: one more than the floor of
   the base-two logarithm, and two to that power. `scale_eq` and `inv_eq` say they agree. -/
module

public import Idealize.ShloMosaic.Lib.Pointwise

@[expose] public section

noncomputable section

namespace Cert.Scale

open Idealize.ShloMosaic

/-- The word whose exponent field is `k` and whose other bits are zero. -/
abbrev word (k : Fin 256) : BitVec 32 := IntOp.shli ArithUnit.vector (BitVec.ofNat 32 ↑k) 23#32

/-- The kernel's exponent field of `v`: the largest `word k` whose value is at most `v`. -/
def expField (v : EReal) : BitVec 32 :=
  Finset.fold IntOp.maxsi (2147483648#32)
    (fun k : Fin 256 => if v < Ideal.ofBits FTy.f32 (word k) then 0#32 else word k) Finset.univ

/-- The word of the scale: the exponent field plus one, or the word of 1 where the field is zero or all ones. -/
def expWord (v : EReal) : BitVec 32 :=
  Scalar.select
    (IntOp.andi (IntOp.cmpi CmpIPredicate.ne (expField v) 0#32) (IntOp.cmpi CmpIPredicate.ne (expField v) 2139095040#32))
    (IntOp.addi (expField v) 8388608#32) 1065353216#32

/-- The kernel's scale. -/
def scale (v : EReal) : EReal := Ideal.ofBits FTy.f32 (expWord v)

/-- The kernel's reciprocal of the scale. -/
def inv (v : EReal) : EReal := Ideal.ofBits FTy.f32 (IntOp.subi 2130706432#32 (expWord v))

/-- The reference's exponent. -/
def refExp (v : EReal) : EReal :=
  Scalar.select
    (IntOp.ori (BitVec.ofBool (decide (v < Ideal.ofBits FTy.f32 8388608#32)))
      (BitVec.ofBool (decide (v = Ideal.ofBits FTy.f32 2139095040#32))))
    (0 : EReal)
    (Ideal.liftRound Int.floor (Ideal.div (Ideal.log v) (Ideal.log (Ideal.ofBits FTy.f32 1073741824#32))) + 1)

/-- The reference's scale. -/
def refScale (v : EReal) : EReal := Ideal.pow (Ideal.ofBits FTy.f32 1073741824#32) (refExp v)

/-- The reference's reciprocal of the scale. -/
def refInv (v : EReal) : EReal := Ideal.pow (Ideal.ofBits FTy.f32 1073741824#32) (-refExp v)

/-! ### The values of the words -/

private theorem word_fields : ∀ k : Fin 256,
    ((word k).extractLsb' 31 1 == 1#1) = false ∧ ((word k).extractLsb' 23 8).toNat = k.val
      ∧ ((word k).extractLsb' 0 23).toNat = 0 := by decide +kernel

/-- A word is its exponent field shifted into place. -/
theorem word_toInt : ∀ k : Fin 256, (word k).toInt = (k.val : Int) * 8388608 := by decide +kernel

/-- Word zero is 0, word 255 is infinity, and any other word is a power of two. -/
theorem word_val (k : Fin 256) : Ideal.ofBits FTy.f32 (word k)
    = if k.val = 255 then ⊤ else if k.val = 0 then 0 else (((2 : ℝ) ^ ((k.val : Int) - 127) : ℝ) : EReal) := by
  obtain ⟨h1, h2, h3⟩ := word_fields k
  show Ideal.ieee 8 23 (word k) = _
  simp only [Ideal.ieee]
  rw [show (8 + 23 : Nat) = 31 from rfl, h1, h2, h3]
  by_cases k5 : k.val = 255
  · simp [k5]
  by_cases k0 : k.val = 0
  · simp [k0]
  have k5' : ¬ k.val = 2 ^ 8 - 1 := by omega
  rw [if_neg k5', if_neg k0, if_neg k5, if_neg k0]
  apply congrArg
  have h23 : (((2 ^ 23 + 0 : Nat) : ℝ)) = (2 : ℝ) ^ (23 : Int) := by norm_num
  rw [h23, if_neg (by simp), one_mul, ← zpow_add₀ (by norm_num)]
  apply congrArg
  norm_num

theorem two_val : Ideal.ofBits FTy.f32 1073741824#32 = ((2 : ℝ) : EReal) := by
  have := word_val ⟨128, by omega⟩
  rw [show word ⟨128, by omega⟩ = 1073741824#32 by decide] at this
  rw [this]; norm_num

theorem tiny_val : Ideal.ofBits FTy.f32 8388608#32 = (((2 : ℝ) ^ (-126 : Int) : ℝ) : EReal) := by
  have := word_val ⟨1, by omega⟩
  rw [show word ⟨1, by omega⟩ = 8388608#32 by decide] at this
  rw [this]; norm_num

theorem inf_val : Ideal.ofBits FTy.f32 2139095040#32 = ⊤ := by
  have := word_val ⟨255, by omega⟩
  rw [show word ⟨255, by omega⟩ = 2139095040#32 by decide] at this
  rw [this]; norm_num

theorem one_val : Ideal.ofBits FTy.f32 1065353216#32 = 1 := by
  have := word_val ⟨127, by omega⟩
  rw [show word ⟨127, by omega⟩ = 1065353216#32 by decide] at this
  rw [this]; norm_num

/-- The words' values grow with the exponent field. -/
theorem word_mono {j k : Fin 256} (h : j ≤ k) : Ideal.ofBits FTy.f32 (word j) ≤ Ideal.ofBits FTy.f32 (word k) := by
  have h' : j.val ≤ k.val := h
  rw [word_val, word_val]
  by_cases k5 : k.val = 255
  · simp [k5]
  have j5 : j.val ≠ 255 := by have := k.isLt; omega
  rw [if_neg k5, if_neg j5]
  by_cases j0 : j.val = 0
  · rw [if_pos j0]
    split
    · exact le_refl _
    · exact_mod_cast (zpow_pos (by norm_num : (0 : ℝ) < 2) _).le
  have k0 : k.val ≠ 0 := by omega
  rw [if_neg j0, if_neg k0]
  exact EReal.coe_le_coe_iff.mpr (zpow_le_zpow_right₀ (by norm_num : (1 : ℝ) ≤ 2)
    (show (j.val : Int) - 127 ≤ (k.val : Int) - 127 by omega))

/-! ### The exponent field -/

private theorem maxsi_toInt (a b : BitVec 32) : (IntOp.maxsi a b).toInt = max a.toInt b.toInt := by
  unfold IntOp.maxsi
  by_cases h : b.toInt < a.toInt
  · rw [if_pos (BitVec.slt_iff_toInt_lt.mpr h), max_eq_left h.le]
  · rw [if_neg (fun h' => h (BitVec.slt_iff_toInt_lt.mp h')), max_eq_right (not_lt.mp h)]

private theorem fold_toInt (f : Fin 256 → BitVec 32) (b : BitVec 32) (s : Finset (Fin 256)) :
    (Finset.fold IntOp.maxsi b f s).toInt = Finset.fold max b.toInt (fun k => (f k).toInt) s := by
  induction s using Finset.induction_on with
  | empty => simp
  | insert a s ha ih => rw [Finset.fold_insert ha, Finset.fold_insert ha, maxsi_toInt, ih]

/-- The exponent field of `v` is `K` where the value of word `K` is at most `v` and every later word's is above it. -/
theorem expField_eq (v : EReal) (K : Fin 256) (hK : ¬ v < Ideal.ofBits FTy.f32 (word K))
    (hl : ∀ k : Fin 256, K < k → v < Ideal.ofBits FTy.f32 (word k)) : expField v = word K := by
  apply BitVec.eq_of_toInt_eq
  unfold expField
  rw [fold_toInt]
  apply le_antisymm
  · rw [Finset.fold_max_le]
    refine ⟨?_, fun k _ => ?_⟩
    · rw [word_toInt]
      have : (2147483648#32 : BitVec 32).toInt = -2147483648 := by decide
      omega
    · split
      · rw [word_toInt]
        have : (0#32 : BitVec 32).toInt = 0 := by decide
        omega
      · rename_i h
        have hk : k ≤ K := not_lt.mp fun h' => h (hl k h')
        have hk' : k.val ≤ K.val := hk
        rw [word_toInt, word_toInt]
        omega
  · rw [Finset.le_fold_max]
    exact Or.inr ⟨K, Finset.mem_univ _, by rw [if_neg hK]⟩

private theorem expWord_mid : ∀ K : Fin 256, K.val ≠ 0 → K.val < 253 →
    Scalar.select
      (IntOp.andi (IntOp.cmpi CmpIPredicate.ne (word K) 0#32) (IntOp.cmpi CmpIPredicate.ne (word K) 2139095040#32))
      (IntOp.addi (word K) 8388608#32) 1065353216#32 = word (K + 1)
    ∧ IntOp.subi 2130706432#32 (word (K + 1)) = word (253 - K) := by decide +kernel

private theorem unit_case (v : EReal) (h : expWord v = 1065353216#32) : scale v = 1 ∧ inv v = 1 := by
  unfold scale inv
  rw [h]
  refine ⟨one_val, ?_⟩
  rw [show IntOp.subi 2130706432#32 1065353216#32 = 1065353216#32 by decide]
  exact one_val

private theorem unit_ref (v : EReal) (h : refExp v = 0) : refScale v = 1 ∧ refInv v = 1 := by
  unfold refScale refInv
  rw [h, two_val, neg_zero, show (0 : EReal) = ((0 : ℝ) : EReal) from rfl, Ideal.pow_coe_coe]
  have : Real.rpow 2 0 = 1 := Real.rpow_zero 2
  rw [this]
  exact ⟨rfl, rfl⟩

/-- The kernel's scale and reciprocal are the reference's, for every value from 0 to `2 ^ 125` and for infinity. -/
theorem both_eq (v : EReal) (h0 : 0 ≤ v) (hb : v = ⊤ ∨ v < (((2 : ℝ) ^ (125 : Int) : ℝ) : EReal)) :
    scale v = refScale v ∧ inv v = refInv v := by
  rcases hb with rfl | hb
  · -- infinity
    have hf : expField ⊤ = word ⟨255, by omega⟩ :=
      expField_eq _ _ (by simp) (fun k hk => absurd (show 255 < k.val from hk) (by omega))
    have hw : expWord ⊤ = 1065353216#32 := by unfold expWord; rw [hf]; decide
    have hr : refExp ⊤ = 0 := by
      unfold refExp
      rw [inf_val]
      simp [Scalar.select, IntOp.ori]
    rw [(unit_case _ hw).1, (unit_case _ hw).2, (unit_ref _ hr).1, (unit_ref _ hr).2]
    exact ⟨rfl, rfl⟩
  by_cases ht : v < (((2 : ℝ) ^ (-126 : Int) : ℝ) : EReal)
  · -- below the smallest normal number
    have hf : expField v = word ⟨0, by omega⟩ := by
      refine expField_eq _ _ ?_ (fun k hk => ?_)
      · rw [word_val]; simpa using h0
      · have : (⟨1, by omega⟩ : Fin 256) ≤ k := by
          have : 0 < k.val := hk
          exact Fin.mk_le_of_le_val this
        refine lt_of_lt_of_le ht (le_trans (le_of_eq ?_) (word_mono this))
        rw [word_val]; norm_num
    have hw : expWord v = 1065353216#32 := by unfold expWord; rw [hf]; decide
    have hr : refExp v = 0 := by
      unfold refExp
      rw [tiny_val, decide_eq_true ht]
      have hb : ∀ b : Bool, IntOp.ori (BitVec.ofBool true) (BitVec.ofBool b) = 1#1 := by decide
      rw [hb]
      exact if_pos rfl
    rw [(unit_case _ hw).1, (unit_case _ hw).2, (unit_ref _ hr).1, (unit_ref _ hr).2]
    exact ⟨rfl, rfl⟩
  · -- a normal number
    have hvt : v ≠ ⊤ := fun h => by rw [h] at hb; exact absurd hb (by simp)
    have hvb : v ≠ ⊥ := fun h => by rw [h] at h0; exact absurd h0 (by simp)
    lift v to ℝ using ⟨hvt, hvb⟩
    have hlo : (2 : ℝ) ^ (-126 : Int) ≤ v := by exact_mod_cast not_lt.mp ht
    have hhi : v < (2 : ℝ) ^ (125 : Int) := by exact_mod_cast hb
    have hpos : 0 < v := lt_of_lt_of_le (by positivity) hlo
    have hl : 0 < Real.log 2 := Real.log_pos (by norm_num)
    obtain ⟨n, hfl⟩ : ∃ n : Int, ⌊Real.log v / Real.log 2⌋ = n := ⟨_, rfl⟩
    have hn1 : (2 : ℝ) ^ n ≤ v := by
      have h := Int.floor_le (Real.log v / Real.log 2)
      rw [hfl, le_div_iff₀ hl, ← Real.log_zpow] at h
      exact (Real.log_le_log_iff (by positivity) hpos).mp h
    have hn2 : v < (2 : ℝ) ^ (n + 1) := by
      have h := Int.lt_floor_add_one (Real.log v / Real.log 2)
      rw [hfl, div_lt_iff₀ hl, ← Int.cast_one, ← Int.cast_add, ← Real.log_zpow] at h
      exact (Real.log_lt_log_iff hpos (by positivity)).mp h
    have hnl : -126 ≤ n := by
      have : (2 : ℝ) ^ (-126 : Int) < (2 : ℝ) ^ (n + 1) := lt_of_le_of_lt hlo hn2
      have := (zpow_lt_zpow_iff_right₀ (by norm_num : (1 : ℝ) < 2)).mp this
      omega
    have hnh : n < 125 := by
      have : (2 : ℝ) ^ n < (2 : ℝ) ^ (125 : Int) := lt_of_le_of_lt hn1 hhi
      exact (zpow_lt_zpow_iff_right₀ (by norm_num : (1 : ℝ) < 2)).mp this
    obtain ⟨K, hKn⟩ : ∃ K : Nat, (K : Int) = n + 127 := ⟨(n + 127).toNat, by omega⟩
    have hK : K < 256 := by omega
    have hf : expField (v : EReal) = word ⟨K, hK⟩ := by
      refine expField_eq _ _ ?_ (fun k hk => ?_)
      · rw [word_val, if_neg (by simp only; omega), if_neg (by simp only; omega), not_lt]
        simp only [hKn, add_sub_cancel_right]
        exact_mod_cast hn1
      · have h1 : (⟨K + 1, by omega⟩ : Fin 256) ≤ k := by
          have : K < k.val := hk
          exact Fin.mk_le_of_le_val this
        refine lt_of_lt_of_le ?_ (word_mono h1)
        rw [word_val, if_neg (by simp only; omega), if_neg (by simp only; omega)]
        simp only [Nat.cast_add, Nat.cast_one, hKn]
        rw [show n + 127 + 1 - 127 = n + 1 by ring]
        exact_mod_cast hn2
    obtain ⟨hw1, hw2⟩ := expWord_mid ⟨K, hK⟩ (by simp only; omega) (by simp only; omega)
    have e1 : ((⟨K, hK⟩ : Fin 256) + 1).val = K + 1 := by
      rw [Fin.val_add]; simp; omega
    have e2 : ((253 : Fin 256) - ⟨K, hK⟩).val = 253 - K := by
      rw [Fin.val_sub]; simp; omega
    have hr : refExp (v : EReal) = ((n + 1 : Int) : ℝ) := by
      unfold refExp
      rw [tiny_val, inf_val, two_val, decide_eq_false ht, decide_eq_false hvt]
      have hl2 : Real.log 2 ≠ 0 := (Real.log_pos (by norm_num)).ne'
      rw [Ideal.log_coe, if_neg (not_le.mpr hpos), Ideal.log_coe, if_neg (by norm_num), Ideal.div_coe hl2]
      rw [← EReal.coe_mul, mul_one_div, Ideal.liftRound_coe, hfl]
      simp [Scalar.select, IntOp.ori]
    have hs : scale (v : EReal) = (((2 : ℝ) ^ (n + 1) : ℝ) : EReal) := by
      unfold scale expWord
      rw [hf, hw1, word_val, e1, if_neg (by omega), if_neg (by omega)]
      congr 2; push_cast; omega
    have hi : inv (v : EReal) = (((2 : ℝ) ^ (-(n + 1)) : ℝ) : EReal) := by
      unfold inv expWord
      rw [hf, hw1, hw2, word_val, e2, if_neg (by omega), if_neg (by omega)]
      congr 2; omega
    rw [hs, hi]
    unfold refScale refInv
    rw [hr, two_val, ← EReal.coe_neg, Ideal.pow_coe_coe, Ideal.pow_coe_coe]
    constructor
    · congr 1
      exact (Real.rpow_intCast 2 (n + 1)).symm
    · congr 1
      rw [← Int.cast_neg]
      exact (Real.rpow_intCast 2 (-(n + 1))).symm

end Cert.Scale

end
-- ==== Proof.Bound.lean ====
/- The range of a group's largest magnitude over 448.

   `vmax` is the value that both the kernel and the reference turn into a power-of-two scale. For activations in
   bfloat16's range it is at least 0, and it is infinite or below `2 ^ 125`. -/
module

public import proofs.«01_k».proof.Proof.Scale
public import proofs.«01_k».proof.Defs
public import proofs.«01_k».proof.Proof.Gen.Pre_in_range
public import Idealize.ShloMosaic.Lib.ReduceAll
public import Idealize.ShloMosaic.Lib.WordArith

@[expose] public section

noncomputable section

namespace Cert.Scale

open Idealize.ShloMosaic

/-- The largest magnitude of a group of 128 values, times the constant that stands for 1/448. -/
def vmax (f : Fin 128 → EReal) : EReal :=
  Finset.fold max (Ideal.ofBits FTy.f32 4286578688#32) (fun l => FloatOps.absf (F := Ideal) (φ := .f32) (f l)) Finset.univ
    * Ideal.ofBits FTy.f32 991054117#32

/-- A value in bfloat16's range: finite and at most bfloat16's largest number in magnitude, or infinite. -/
def InRange (x : EReal) : Prop :=
  FloatOps.absf (F := Ideal) (φ := .bf16) x ≤ Ideal.ofBits FTy.bf16 0x7F7F#16
    ∨ FloatOps.absf (F := Ideal) (φ := .bf16) x = Ideal.ofBits FTy.bf16 0x7F80#16

theorem bf16_max_val : Ideal.ofBits FTy.bf16 0x7F7F#16 = ((255 * (2 : ℝ) ^ (120 : Int) : ℝ) : EReal) := by
  simp [Ideal.ofBits, Ideal.ieee, -EReal.coe_mul]

theorem bf16_inf_val : Ideal.ofBits FTy.bf16 0x7F80#16 = ⊤ := by
  simp [Ideal.ofBits, Ideal.ieee]

theorem neg_inf_val : Ideal.ofBits FTy.f32 4286578688#32 = ⊥ := by
  simp [Ideal.ofBits, Ideal.ieee]

theorem recip_val : Ideal.ofBits FTy.f32 991054117#32 = ((9586981 * (2 : ℝ) ^ (-32 : Int) : ℝ) : EReal) := by
  simp [Ideal.ofBits, Ideal.ieee, -EReal.coe_mul]

/-- The range of `vmax` over a group of values in bfloat16's range. -/
theorem vmax_range (f : Fin 128 → EReal) (hf : ∀ l, InRange (f l)) :
    0 ≤ vmax f ∧ (vmax f = ⊤ ∨ vmax f < (((2 : ℝ) ^ (125 : Int) : ℝ) : EReal)) := by
  have hc : (0 : ℝ) < 9586981 * (2 : ℝ) ^ (-32 : Int) := by positivity
  unfold vmax
  rw [neg_inf_val, recip_val]
  have habs : ∀ l, (0 : EReal) ≤ FloatOps.absf (F := Ideal) (φ := .f32) (f l) := by
    intro l
    show (0 : EReal) ≤ max (f l) (-(f l))
    rcases le_total 0 (f l) with h | h
    · exact le_max_of_le_left h
    · exact le_max_of_le_right (by simpa using EReal.neg_le_neg_iff.mpr h)
  set M := Finset.fold max (⊥ : EReal) (fun l => FloatOps.absf (F := Ideal) (φ := .f32) (f l)) Finset.univ with hM
  have hM0 : 0 ≤ M := (Finset.le_fold_max (0 : EReal)).mpr (Or.inr ⟨0, Finset.mem_univ _, habs 0⟩)
  refine ⟨mul_nonneg hM0 (EReal.coe_nonneg.mpr hc.le), ?_⟩
  by_cases ht : ∃ l, FloatOps.absf (F := Ideal) (φ := .f32) (f l) = ⊤
  · obtain ⟨l, hl⟩ := ht
    have : M = ⊤ := top_le_iff.mp ((Finset.le_fold_max (⊤ : EReal)).mpr (Or.inr ⟨l, Finset.mem_univ _, hl.ge⟩))
    left
    rw [this]
    exact EReal.top_mul_coe_of_pos hc
  · right
    have hle : M ≤ ((255 * (2 : ℝ) ^ (120 : Int) : ℝ) : EReal) := by
      refine (Finset.fold_max_le _).mpr ⟨bot_le, fun l _ => ?_⟩
      rcases hf l with h | h
      · rw [bf16_max_val] at h; exact h
      · rw [bf16_inf_val] at h; exact absurd ⟨l, h⟩ ht
    refine lt_of_le_of_lt (mul_le_mul_of_nonneg_right hle (EReal.coe_nonneg.mpr hc.le)) ?_
    rw [← EReal.coe_mul, EReal.coe_lt_coe_iff]
    norm_num

end Cert.Scale

namespace Cert.Pre_in_range

open Idealize.ShloMosaic Facts

/-- The claim's condition gives every activation's range. -/
theorem inRange (x : FVec Ideal S12x768x20x512 .bf16) (w : IVec S20x256x1408 8) (e : IVec S20x16x1408 8)
    (h : fn (F := Ideal) x w e = fun _ => 1#1) (i : S12x768x20x512.Idx) : Cert.Scale.InRange (x i) := by
  have h0 := congrFun h (Shape.Idx.first h_S_)
  dsimp only [fn] at h0
  have h1 := Host.reduce_andi_all _ _ _ _ _ h0 i
  have h2 : IntOp.ori (BitVec.ofBool (decide (FloatOps.absf (F := Ideal) (φ := .bf16) (x i) ≤ Ideal.ofBits FTy.bf16 0x7F7F#16)))
      (BitVec.ofBool (decide (FloatOps.absf (F := Ideal) (φ := .bf16) (x i) = Ideal.ofBits FTy.bf16 0x7F80#16))) = 1#1 := h1
  rw [WordArith.ori_ofBool, WordArith.ofBool_eq_one_iff] at h2
  simpa [Cert.Scale.InRange] using h2

end Cert.Pre_in_range

end
-- ==== Proof.Group.lean ====
/- The eight quantised groups of one block are computed by the same function.

   The kernel's body is unrolled over its two batch rows and four groups, and the generated file names each unrolled
   copy's values separately. Here one function per result is stated for a single group of 128 columns (`cod`, `scl`,
   `deq` and their stored forms), and each unrolled copy is shown to be that function. -/
module

public import proofs.«01_k».proof.Defs
public import proofs.«01_k».proof.Proof.Gen.KernelIdeal.Frame

@[expose] public section

set_option maxRecDepth 16384

noncomputable section

namespace Cert.KernelIdeal.Group

open Idealize.ShloMosaic Idealize.SL.Sem Cert.KernelIdeal Cert.KernelIdeal.Gen

variable {F : FTy → Type} [FloatOps F]

/-- The lower bound of the clip, -448 as an f32 constant. -/
abbrev lowBound : F .f32 := FloatOps.ofBits FTy.f32 3286237184#32

/-- The fp8 codes of one group. -/
def cod (x : Vec F S1x1x768x128 .bf16) : FVec F S768x128 .fp8e4m3 := k0_pay8 (k0_pay7 x) lowBound

/-- The scales of one group, one per row. -/
def scl (x : Vec F S1x1x768x128 .bf16) : FVec F S768x1 .f32 := k0_pay6 x

/-- The codes times the scales of one group: the quantised activations. -/
def deq (x : Vec F S1x1x768x128 .bf16) : FVec F S768x128 .bf16 := k0_pay10 (scl x) (k0_pay7 x) lowBound

/-- The codes as the kernel stores them. -/
def codS (x : Vec F S1x1x768x128 .bf16) : FVec F S1x1x768x128 .fp8e4m3 := k0_pay9 (k0_pay7 x) lowBound

/-- The scales as the kernel stores them. -/
def sclS (x : Vec F S1x1x768x128 .bf16) : FVec F S1x1x1x768 .f32 := k0_pay11 (scl x)

/-- One batch row of the product: the four quantised groups side by side, times the decoded weights. -/
def rowsS (x0 x1 x2 x3 : Vec F S1x1x768x128 .bf16) (w : Vec F S512x1408 .bf16) : FVec F S1x1x768x1408 .bf16 :=
  shapeCast S1x1x768x1408
    (truncf .bf16
      (matmul dot_S768x512_S512x1408_S768x1408_1_0_0_1_n_n none
        (concatenate S768x512 1 [⟨S768x128, deq x0⟩, ⟨S768x128, deq x1⟩, ⟨S768x128, deq x2⟩, ⟨S768x128, deq x3⟩]
          concatenates_S768x128_S768x128_S768x128_S768x128_S768x512_d1) w (constant S768x1408 .f32 0x00000000#32))
      bitsLt_bf16_f32) shapeCasts_S768x1408_S1x1x768x1408

variable (x x0 x1 x2 x3 : Vec F S1x1x768x128 .bf16) (w : Vec F S512x1408 .bf16)

/-! The stored codes of the eight groups. -/

theorem codS_00 : k0_pay9 (k0_pay7 x) (FloatOps.ofBits FTy.f32 3286237184#32) = codS x := rfl
theorem codS_01 : k0_pay17 (k0_pay12 x) (k0_pay13 x) 0#32 = codS x := rfl
theorem codS_02 : k0_pay25 (k0_pay20 x) (k0_pay21 x) = codS x := rfl
theorem codS_03 : k0_pay35 (k0_pay30 x) (k0_pay33 x) = codS x := rfl
theorem codS_10 : k0_pay44 (k0_pay38 x) (k0_pay39 x) k0_pay40 = codS x := rfl
theorem codS_11 : k0_pay53 (k0_pay51 x) (FloatOps.ofBits FTy.f32 3286237184#32) = codS x := rfl
theorem codS_12 : k0_pay61 (k0_pay56 x) (k0_pay57 x) 0#32 = codS x := rfl
theorem codS_13 : k0_pay69 (k0_pay64 x) (k0_pay65 x) = codS x := rfl

/-! The stored scales of the eight groups. -/

theorem sclS_00 : k0_pay11 (k0_pay6 x) = sclS x := rfl
theorem sclS_01 : k0_pay19 (k0_pay13 x) 0#32 = sclS x := rfl
theorem sclS_02 : k0_pay29 (k0_pay23 (k0_pay21 x)) = sclS x := rfl
theorem sclS_03 : k0_pay36 (k0_pay32 x) = sclS x := rfl
theorem sclS_10 : k0_pay47 (k0_pay46 (k0_pay39 x) k0_pay40) = sclS x := rfl
theorem sclS_11 : k0_pay55 (k0_pay50 x) = sclS x := rfl
theorem sclS_12 : k0_pay63 (k0_pay57 x) 0#32 = sclS x := rfl
theorem sclS_13 : k0_pay1 (k0_pay67 (k0_pay65 x)) = sclS x := rfl

/-! The quantised activations of the seven groups that are named apart from the product. -/

theorem deq_00 : k0_pay10 (k0_pay6 x) (k0_pay7 x) (FloatOps.ofBits FTy.f32 3286237184#32) = deq x := rfl
theorem deq_01 : k0_pay18 (k0_pay12 x) (k0_pay13 x) 0#32 = deq x := rfl
theorem deq_02 : k0_pay28 (k0_pay26 (k0_pay20 x) (k0_pay21 x)) (k0_pay27 (k0_pay21 x)) = deq x := rfl
theorem deq_10 : k0_pay45 (k0_pay38 x) (k0_pay39 x) k0_pay40 = deq x := rfl
theorem deq_11 : k0_pay54 (k0_pay50 x) (k0_pay51 x) (FloatOps.ofBits FTy.f32 3286237184#32) = deq x := rfl
theorem deq_12 : k0_pay62 (k0_pay56 x) (k0_pay57 x) 0#32 = deq x := rfl

/-- The product of the first batch row. -/
theorem rows_0 : k0_pay37 (deq x0) (deq x1) (deq x2) (k0_pay30 x3) (k0_pay32 x3) (k0_pay33 x3) w = rowsS x0 x1 x2 x3 w := rfl

/-- The product of the second batch row. -/
theorem rows_1 : k0_pay2 (deq x0) (deq x1) (deq x2) (k0_pay70 (k0_pay64 x3) (k0_pay65 x3)) (k0_pay71 (k0_pay65 x3)) w
    = rowsS x0 x1 x2 x3 w := rfl

end Cert.KernelIdeal.Group

end
-- ==== Proof.Tile.lean ====
/- One group of 128 columns, and one batch row of the product, at an index.

   `Quant` is what a value becomes when its group is quantised: scaled by the group's reciprocal scale and clipped.
   `tile_cod`, `tile_scl`, `tile_deq` read the kernel's codes, scales and quantised activations of a group whose values
   are given by a function of the batch row; `tile_rows` reads the product of a batch row. -/
module

public import proofs.«01_k».proof.Proof.Bound
public import proofs.«01_k».proof.Proof.Group
public import Idealize.ShloMosaic.Lib.Pointwise

@[expose] public section

set_option maxRecDepth 16384

noncomputable section

namespace Cert.Scale

open Idealize.ShloMosaic

/-- The group of 128 values that column `k` of a row of 512 is in. -/
def grp (f : Fin 512 → EReal) (k : Fin 512) : Fin 128 → EReal := fun l => f ⟨k.val / 128 * 128 + l.val, by omega⟩

/-- A value scaled by `i` and clipped to fp8's range. -/
def clip (x i : EReal) : EReal :=
  min (Ideal.ofBits FTy.f32 1138753536#32) (max (Ideal.ofBits FTy.f32 3286237184#32) (x * i))

/-- The quantised value in column `k` of a row. -/
def code (f : Fin 512 → EReal) (k : Fin 512) : EReal := clip (f k) (inv (vmax (grp f k)))

/-- The quantised value in column `k` of a row, times its scale. -/
def quant (f : Fin 512 → EReal) (k : Fin 512) : EReal := code f k * scale (vmax (grp f k))

end Cert.Scale

namespace Cert.KernelIdeal.Group

open Idealize.ShloMosaic Idealize.SL.Sem Cert.KernelIdeal Cert.KernelIdeal.Gen Cert.Scale

/-- The word of a row's scale. -/
theorem word_apply (x : Vec Ideal S1x1x768x128 .bf16) (s : Fin 768) :
    k0_pay5 x (ix2 s 0) = expWord (vmax (fun l => x (ix4 0 0 s l))) := by
  pointwise [k0_pay5, k0_pay4]
  rfl

/-- The codes of a group at an index. -/
theorem cod_apply (x : Vec Ideal S1x1x768x128 .bf16) (s : Fin 768) (l : Fin 128) :
    codS x (ix4 0 0 s l) = clip (x (ix4 0 0 s l)) (inv (vmax (fun l => x (ix4 0 0 s l)))) := by
  unfold Scale.inv clip
  rw [← word_apply]
  generalize he : k0_pay5 x = e
  pointwise [codS, k0_pay9, k0_pay8, k0_pay7, k0_pay6, k0_pay4, he]

/-- The scales of a group at an index. -/
theorem scl_apply (x : Vec Ideal S1x1x768x128 .bf16) (s : Fin 768) :
    sclS x (ix4 0 0 0 s) = scale (vmax (fun l => x (ix4 0 0 s l))) := by
  unfold scale
  rw [← word_apply]
  generalize he : k0_pay5 x = e
  pointwise [sclS, scl, k0_pay11, k0_pay6, he]

/-- The quantised activations of a group at an index. -/
theorem deq_apply (x : Vec Ideal S1x1x768x128 .bf16) (s : Fin 768) (l : Fin 128) :
    deq x (ix2 s l) = clip (x (ix4 0 0 s l)) (inv (vmax (fun l => x (ix4 0 0 s l)))) * scale (vmax (fun l => x (ix4 0 0 s l))) := by
  unfold Scale.inv clip scale
  rw [← word_apply]
  generalize he : k0_pay5 x = e
  pointwise [deq, scl, k0_pay10, k0_pay8, k0_pay7, k0_pay6, k0_pay4, he]

/-! ### A group as a part of a row

`f` is a row of 512 values and `x` holds its columns `128 g` to `128 g + 127`. -/

section Row
variable (f : Fin 512 → EReal) (g : Nat) (x : Vec Ideal S1x1x768x128 .bf16) (s : Fin 768)
  (hx : ∀ (l : Fin 128) (k : Fin 512), k.val = g * 128 + l.val → x (ix4 0 0 s l) = f k)
include hx

theorem grp_row (k : Fin 512) (hk : k.val / 128 = g) : grp f k = fun l => x (ix4 0 0 s l) := by
  funext l
  exact (hx l _ (by show k.val / 128 * 128 + l.val = g * 128 + l.val; rw [hk])).symm

theorem cod_row (l : Fin 128) (k : Fin 512) (hk : k.val = g * 128 + l.val) : codS x (ix4 0 0 s l) = code f k := by
  unfold code
  rw [cod_apply, grp_row f g x s hx k (by omega), hx l k hk]

theorem scl_row (k : Fin 512) (hk : k.val / 128 = g) : sclS x (ix4 0 0 0 s) = scale (vmax (grp f k)) := by
  rw [scl_apply, grp_row f g x s hx k hk]

theorem deq_row (l : Fin 128) (k : Fin 512) (hk : k.val = g * 128 + l.val) : deq x (ix2 s l) = quant f k := by
  unfold quant code
  rw [deq_apply, grp_row f g x s hx k (by omega), hx l k hk]

end Row

/-- Four groups side by side times the weights: a sum over the row's 512 columns. -/
theorem product_apply (y0 y1 y2 y3 : FVec Ideal S768x128 .bf16) (w : FVec Ideal S512x1408 .bf16) (s : Fin 768) (o : Fin 1408)
    (D : Fin 512 → EReal)
    (h0 : ∀ (l : Fin 128) (k : Fin 512), k.val = 0 * 128 + l.val → y0 (ix2 s l) = D k)
    (h1 : ∀ (l : Fin 128) (k : Fin 512), k.val = 1 * 128 + l.val → y1 (ix2 s l) = D k)
    (h2 : ∀ (l : Fin 128) (k : Fin 512), k.val = 2 * 128 + l.val → y2 (ix2 s l) = D k)
    (h3 : ∀ (l : Fin 128) (k : Fin 512), k.val = 3 * 128 + l.val → y3 (ix2 s l) = D k) :
    shapeCast S1x1x768x1408
    (truncf .bf16
      (matmul dot_S768x512_S512x1408_S768x1408_1_0_0_1_n_n none
        (concatenate S768x512 1 [⟨S768x128, y0⟩, ⟨S768x128, y1⟩, ⟨S768x128, y2⟩, ⟨S768x128, y3⟩]
          concatenates_S768x128_S768x128_S768x128_S768x128_S768x512_d1) w (constant S768x1408 .f32 0x00000000#32))
      bitsLt_bf16_f32) shapeCasts_S768x1408_S1x1x768x1408 (ix4 0 0 s o) = ∑ k : Fin 512, D k * w (ix2 k o) := by
  pointwise []
  refine Finset.sum_congr rfl fun k _ => ?_
  congr 1
  have hk := k.isLt
  split
  · exact h0 _ k (by show k.val = 0 * 128 + k.val; omega)
  split
  · exact h1 _ k (by show k.val = 1 * 128 + (k.val - 128); omega)
  split
  · exact h2 _ k (by show k.val = 2 * 128 + (k.val - 128 - 128); omega)
  · exact h3 _ k (by show k.val = 3 * 128 + (k.val - 128 - 128 - 128); omega)

/-- One batch row of the product, where the four groups are the row `f`. -/
theorem rows_row (f : Fin 512 → EReal) (x0 x1 x2 x3 : Vec Ideal S1x1x768x128 .bf16) (w : Vec Ideal S512x1408 .bf16)
    (s : Fin 768) (o : Fin 1408)
    (h0 : ∀ (l : Fin 128) (k : Fin 512), k.val = 0 * 128 + l.val → x0 (ix4 0 0 s l) = f k)
    (h1 : ∀ (l : Fin 128) (k : Fin 512), k.val = 1 * 128 + l.val → x1 (ix4 0 0 s l) = f k)
    (h2 : ∀ (l : Fin 128) (k : Fin 512), k.val = 2 * 128 + l.val → x2 (ix4 0 0 s l) = f k)
    (h3 : ∀ (l : Fin 128) (k : Fin 512), k.val = 3 * 128 + l.val → x3 (ix4 0 0 s l) = f k) :
    rowsS x0 x1 x2 x3 w (ix4 0 0 s o) = ∑ k : Fin 512, quant f k * w (ix2 k o) :=
  product_apply (deq x0) (deq x1) (deq x2) (deq x3) w s o (quant f)
    (deq_row f 0 x0 s h0) (deq_row f 1 x1 s h1) (deq_row f 2 x2 s h2) (deq_row f 3 x3 s h3)

end Cert.KernelIdeal.Group

end
-- ==== Proof.Decode.lean ====
/- The decoding of one packed weight and of one weight scale, on single words.

   `refNib` and `refE8` are the reference's decoding of a four-bit weight code and of an eight-bit scale. `loByte` and
   `hiByte` are the eight-bit float codes the kernel makes of a packed byte's two halves; `lo_word` and `hi_word` say
   that the kernel's masks and shifts on a 32-bit word do this to each of its four bytes. -/
module

public import proofs.«01_k».proof.Proof.Scale
public import Idealize.ShloMosaic.Lib.BitcastFour
public import Idealize.ShloMosaic.Lib.Pointwise

@[expose] public section

noncomputable section

namespace Cert.Decode

open Idealize.ShloMosaic

/-- A bit test of a code. -/
abbrev bit (c m : BitVec 32) : BitVec 1 := IntOp.cmpi CmpIPredicate.ne (IntOp.andi c m) 0#32

/-- The magnitude of a four-bit code. -/
def mag (c : BitVec 32) : EReal :=
  Scalar.select (bit c 4#32)
    (Scalar.select (bit c 2#32)
      (Scalar.select (bit c 1#32) (Ideal.ofBits FTy.bf16 0x40C0#16) (Ideal.ofBits FTy.bf16 0x4080#16))
      (Scalar.select (bit c 1#32) (Ideal.ofBits FTy.bf16 0x4040#16) (Ideal.ofBits FTy.bf16 0x4000#16)))
    (Scalar.select (bit c 2#32)
      (Scalar.select (bit c 1#32) (Ideal.ofBits FTy.bf16 0x3FC0#16) (Ideal.ofBits FTy.bf16 0x3F80#16))
      (Scalar.select (bit c 1#32) (Ideal.ofBits FTy.bf16 0x3F00#16) (Ideal.ofBits FTy.bf16 0x0000#16)))

/-- The value of a four-bit code. -/
def refNib (c : BitVec 32) : EReal := Scalar.select (bit c 8#32) (-mag c) (mag c)

/-- The value of an eight-bit scale. -/
def refE8 (n : BitVec 8) : EReal :=
  Scalar.select (IntOp.cmpi CmpIPredicate.eq (n.setWidth 32) 0#32) (Ideal.ofBits FTy.f32 0#32)
    (Scalar.select (IntOp.cmpi CmpIPredicate.eq (n.setWidth 32) 255#32) (Ideal.ofBits FTy.f32 2139095040#32)
      (Ideal.pow (Ideal.ofBits FTy.f32 1073741824#32)
        (((IntOp.subi (n.setWidth 32) 127#32).toInt : ℝ) : EReal)))

/-- The eight-bit float code of a packed byte's low half. -/
def loByte (p : BitVec 8) : BitVec 8 := ((p &&& 0x07#8) <<< 2) ||| ((p &&& 0x08#8) <<< 4)

/-- The eight-bit float code of a packed byte's high half. -/
def hiByte (p : BitVec 8) : BitVec 8 := ((p &&& 0x70#8) >>> 2) ||| (p &&& 0x80#8)

/-- The sixteen codes, one by one: the eight-bit float's value times 64 is the four-bit code's value. -/
private theorem nib_val : ∀ n : Fin 16,
    Ideal.ofBits FTy.fp8e4m3 (loByte (BitVec.ofNat 8 n.val)) * Ideal.ofBits FTy.bf16 17024#16 = refNib (BitVec.ofNat 32 n.val) := by
  intro n
  have h64 : Ideal.ofBits FTy.bf16 17024#16 = ((64 : ℝ) : EReal) := by
    simp [Ideal.ofBits, Ideal.ieee, -EReal.coe_mul]; norm_num
  rw [h64]
  have v6 : Ideal.ofBits FTy.bf16 0x40C0#16 = ((6 : ℝ) : EReal) := by simp [Ideal.ofBits, Ideal.ieee, -EReal.coe_mul]; norm_num
  have v4 : Ideal.ofBits FTy.bf16 0x4080#16 = ((4 : ℝ) : EReal) := by simp [Ideal.ofBits, Ideal.ieee, -EReal.coe_mul]; norm_num
  have v3 : Ideal.ofBits FTy.bf16 0x4040#16 = ((3 : ℝ) : EReal) := by simp [Ideal.ofBits, Ideal.ieee, -EReal.coe_mul]; norm_num
  have v2 : Ideal.ofBits FTy.bf16 0x4000#16 = ((2 : ℝ) : EReal) := by simp [Ideal.ofBits, Ideal.ieee, -EReal.coe_mul]; norm_num
  have v15 : Ideal.ofBits FTy.bf16 0x3FC0#16 = ((3 / 2 : ℝ) : EReal) := by simp [Ideal.ofBits, Ideal.ieee, -EReal.coe_mul]; norm_num
  have v1 : Ideal.ofBits FTy.bf16 0x3F80#16 = ((1 : ℝ) : EReal) := by simp [Ideal.ofBits, Ideal.ieee, -EReal.coe_mul]; norm_num
  have v05 : Ideal.ofBits FTy.bf16 0x3F00#16 = ((1 / 2 : ℝ) : EReal) := by simp [Ideal.ofBits, Ideal.ieee, -EReal.coe_mul]; norm_num
  have v0 : Ideal.ofBits FTy.bf16 0x0000#16 = ((0 : ℝ) : EReal) := by simp [Ideal.ofBits, Ideal.ieee, -EReal.coe_mul]
  unfold refNib mag
  rw [v6, v4, v3, v2, v15, v1, v05, v0]
  fin_cases n <;>
    simp [bit, Scalar.select, IntOp.cmpi, IntOp.andi, loByte, Ideal.ofBits, Ideal.e4m3fn, ← EReal.coe_mul, ← EReal.coe_neg, -EReal.coe_mul, -EReal.coe_neg] <;>
    norm_num <;> rw [← EReal.coe_mul] <;> norm_num

/-- The low half of a packed byte. -/
theorem lo_val (p : BitVec 8) :
    Ideal.ofBits FTy.fp8e4m3 (loByte p) * Ideal.ofBits FTy.bf16 17024#16 = refNib (IntOp.andi (p.setWidth 32) 15#32) := by
  have h : ∀ p : BitVec 8, ∃ n : Fin 16, loByte p = loByte (BitVec.ofNat 8 n.val) ∧ IntOp.andi (p.setWidth 32) 15#32 = BitVec.ofNat 32 n.val := by
    decide +kernel
  obtain ⟨n, h1, h2⟩ := h p
  rw [h1, h2]
  exact nib_val n

/-- The high half of a packed byte. -/
theorem hi_val (p : BitVec 8) :
    Ideal.ofBits FTy.fp8e4m3 (hiByte p) * Ideal.ofBits FTy.bf16 17024#16
      = refNib (IntOp.shrsi ArithUnit.host (p.setWidth 32) 4#32) := by
  have h : ∀ p : BitVec 8, ∃ n : Fin 16, hiByte p = loByte (BitVec.ofNat 8 n.val) ∧ IntOp.shrsi ArithUnit.host (p.setWidth 32) 4#32 = BitVec.ofNat 32 n.val := by
    decide +kernel
  obtain ⟨n, h1, h2⟩ := h p
  rw [h1, h2]
  exact nib_val n

/-- A weight scale: the word made of the eight bits shifted into the exponent field is the reference's value. -/
theorem e8_val (n : BitVec 8) :
    Ideal.ofBits FTy.f32 (IntOp.shli ArithUnit.vector (n.setWidth 32) 23#32) = refE8 n := by
  have h : ∀ n : BitVec 8, IntOp.shli ArithUnit.vector (n.setWidth 32) 23#32 = Scale.word n.toFin
      ∧ (IntOp.cmpi CmpIPredicate.eq (n.setWidth 32) 0#32 = if n.toFin.val = 0 then 1#1 else 0#1)
      ∧ (IntOp.cmpi CmpIPredicate.eq (n.setWidth 32) 255#32 = if n.toFin.val = 255 then 1#1 else 0#1)
      ∧ (IntOp.subi (n.setWidth 32) 127#32).toInt = (n.toFin.val : Int) - 127 := by decide +kernel
  obtain ⟨h1, h2, h3, h4⟩ := h n
  clear h
  unfold refE8
  have hz : Ideal.ofBits FTy.f32 0#32 = 0 := by simp [Ideal.ofBits, Ideal.ieee]
  rw [h1, h2, h3, h4, Scale.word_val, Scale.inf_val, Scale.two_val, hz]
  generalize n.toFin = k
  by_cases h5 : k.val = 255
  · have h0 : ¬ k.val = 0 := by omega
    rw [if_pos h5, if_neg h0, if_pos h5]
    rfl
  by_cases h0 : k.val = 0
  · rw [if_neg h5, if_pos h0, if_pos h0]
    rfl
  rw [if_neg h5, if_neg h0, if_neg h0, if_neg h5]
  show _ = ((Real.rpow 2 _ : ℝ) : EReal)
  apply congrArg
  exact (Real.rpow_intCast 2 _).symm

/-- The kernel's masks and shifts for the low halves, on one word of four bytes. -/
def loWord (w : BitVec 32) : BitVec 32 :=
  IntOp.ori (IntOp.shli ArithUnit.vector (IntOp.andi w 117901063#32) 2#32) (IntOp.shli ArithUnit.vector (IntOp.andi w 134744072#32) 4#32)

/-- The kernel's masks and shifts for the high halves, on one word of four bytes. -/
def hiWord (w : BitVec 32) : BitVec 32 :=
  IntOp.ori (IntOp.shrsi ArithUnit.vector (IntOp.andi w 1886417008#32) 2#32) (IntOp.andi w 2155905152#32)

/-- `loWord` does to each of a word's four bytes what `loByte` does to a byte. -/
theorem loWord_bits (w : BitVec 32) (b : BitVec 8) (k : Nat) (hk : k < 4)
    (h : ∀ q, q < 8 → b.getLsbD q = w.getLsbD (8 * k + q)) (q : Nat) (hq : q < 8) :
    (loWord w).getLsbD (8 * k + q) = (loByte b).getLsbD q := by
  have e1 : IntOp.shli ArithUnit.vector (IntOp.andi w 117901063#32) 2#32 = (w &&& 117901063#32) <<< 2 := rfl
  have e2 : IntOp.shli ArithUnit.vector (IntOp.andi w 134744072#32) 4#32 = (w &&& 134744072#32) <<< 4 := rfl
  unfold loWord loByte IntOp.ori
  rw [e1, e2]
  simp only [BitVec.getLsbD_or, BitVec.getLsbD_shiftLeft, BitVec.getLsbD_and]
  have h0 := h 0 (by omega)
  have h1 := h 1 (by omega)
  have h2 := h 2 (by omega)
  have h3 := h 3 (by omega)
  have h4 := h 4 (by omega)
  have h5 := h 5 (by omega)
  have h6 := h 6 (by omega)
  have h7 := h 7 (by omega)
  clear h
  interval_cases k <;> interval_cases q <;> simp at h0 h1 h2 h3 h4 h5 h6 h7 <;> simp [h0, h1, h2, h3, h4, h5, h6, h7]

/-- `hiWord` does to each of a word's four bytes what `hiByte` does to a byte. -/
theorem hiWord_bits (w : BitVec 32) (b : BitVec 8) (k : Nat) (hk : k < 4)
    (h : ∀ q, q < 8 → b.getLsbD q = w.getLsbD (8 * k + q)) (q : Nat) (hq : q < 8) :
    (hiWord w).getLsbD (8 * k + q) = (hiByte b).getLsbD q := by
  have e1 : IntOp.shrsi ArithUnit.vector (IntOp.andi w 1886417008#32) 2#32 = (w &&& 1886417008#32).sshiftRight 2 := rfl
  have em : (1886417008#32 : BitVec 32).msb = false := by decide
  unfold hiWord hiByte IntOp.ori IntOp.andi
  unfold IntOp.andi at e1
  rw [e1]
  simp only [BitVec.getLsbD_or, BitVec.getLsbD_sshiftRight, BitVec.getLsbD_ushiftRight, BitVec.getLsbD_and, BitVec.msb_and, em, Bool.and_false]
  have h0 := h 0 (by omega)
  have h1 := h 1 (by omega)
  have h2 := h 2 (by omega)
  have h3 := h 3 (by omega)
  have h4 := h 4 (by omega)
  have h5 := h 5 (by omega)
  have h6 := h 6 (by omega)
  have h7 := h 7 (by omega)
  clear h
  interval_cases k <;> interval_cases q <;> simp at h0 h1 h2 h3 h4 h5 h6 h7 <;> simp [h0, h1, h2, h3, h4, h5, h6, h7]

/-- The bytes of a rectangle of words, where the words are the packed bytes four by four: what a map of words that acts
    on each byte alone makes of the byte at row `r`. -/
theorem bytes_apply (W : (⟨2, ![256, 1408]⟩ : Shape).Idx → BitVec 8)
    (h : (⟨2, ![256, 1408]⟩ : Shape).Bitcasts 8 ⟨2, ![64, 1408]⟩ 32)
    (h' : (⟨2, ![64, 1408]⟩ : Shape).Bitcasts 32 ⟨2, ![256, 1408]⟩ 8)
    (fw : BitVec 32 → BitVec 32) (fb : BitVec 8 → BitVec 8)
    (hf : ∀ w b k, k < 4 → (∀ q, q < 8 → b.getLsbD q = w.getLsbD (8 * k + q)) → ∀ q, q < 8 →
      (fw w).getLsbD (8 * k + q) = (fb b).getLsbD q)
    (r : Fin 256) (l : Fin 1408) :
    bitcast ⟨2, ![256, 1408]⟩ 8 (fun i => fw (bitcast ⟨2, ![64, 1408]⟩ 32 W h i)) h' (ix2 r l) = fb (W (ix2 r l)) := by
  have hr := r.isLt
  apply BitVec.eq_of_getLsbD_eq
  intro q hq
  rw [bitcast_getLsbD _ h' _ q hq (by decide)]
  have row : (⟨2, ![256, 1408]⟩ : Shape).row (ix2 r l) = r.val := rfl
  have e1 : ((⟨2, ![256, 1408]⟩ : Shape).row (ix2 r l) * 8 + q) % 32 = 8 * (r.val % 4) + q := by rw [row]; omega
  have e2 : h'.srcIdx (ix2 r l) (((⟨2, ![256, 1408]⟩ : Shape).row (ix2 r l) * 8 + q) / 32)
      (fun a ha => (Nat.div_lt_iff_lt_mul (by decide)).2 (h'.pos_lt _ q hq a ha)) = ix2 ⟨r.val / 4, by omega⟩ l := by
    funext c
    match c with
    | ⟨0, _⟩ => exact Fin.ext ((h'.srcIdx_row _ _ _ ⟨0, Nat.zero_lt_two⟩ rfl).trans (by rw [row]; show (r.val * 8 + q) / 32 = r.val / 4; omega))
    | ⟨1, _⟩ => exact Fin.ext (h'.srcIdx_other _ _ _ ⟨1, Nat.one_lt_two⟩ (by show ¬ 1 + 2 = 2; omega))
  rw [e1, e2]
  refine hf _ _ _ (by omega) (fun q' hq' => ?_) q hq
  have e3 : (W (ix2 r l)).getLsbD ((8 * (r.val % 4) + q') % 8) = (W (ix2 r l)).getLsbD q' := by congr 1; omega
  exact e3.symm.trans (bitcast_8_32_getLsbD_ix2 W h ⟨r.val / 4, by omega⟩ l (8 * (r.val % 4) + q') (by omega) r
    (by show r.val = 4 * (r.val / 4) + (8 * (r.val % 4) + q') / 8; omega)).symm

end Cert.Decode

end
-- ==== Proof.Weights.lean ====
/- The kernel's decoded weights at an index.

   `weights_apply`: the decoded weight at row `s` and column `l` is the value of a four-bit code, the low half of the
   packed byte at row `s / 2` for an even `s` and the high half for an odd one, times the value of the eight-bit scale
   at row `s / 32`. -/
module

public import proofs.«01_k».proof.Proof.Decode
public import proofs.«01_k».proof.Proof.Group
public import Idealize.ShloMosaic.Lib.Pointwise

@[expose] public section

set_option maxRecDepth 16384

noncomputable section

namespace Cert.Decode

open Idealize.ShloMosaic

/-- The four-bit code at row `s`, from the packed byte of its row pair. -/
def nibble (s : Nat) (p : BitVec 8) : BitVec 32 :=
  if s % 2 = 0 then IntOp.andi (p.setWidth 32) 15#32 else IntOp.shrsi ArithUnit.host (p.setWidth 32) 4#32

end Cert.Decode

namespace Cert.KernelIdeal.Group

open Idealize.ShloMosaic Idealize.SL.Sem Cert.KernelIdeal Cert.KernelIdeal.Gen Cert.Decode

/-- The eight-bit codes of the low halves. -/
theorem lo_apply (W : IVec S256x1408 8) (r : Fin 256) (l : Fin 1408) :
    bitcast S256x1408 8 (ori (shli (andi (bitcast S64x1408 32 W bitcasts_S256x1408_w8_S64x1408_w32) (broadcast S64x1408 117901063#32)) (broadcast S64x1408 2#32))
        (shli (andi (bitcast S64x1408 32 W bitcasts_S256x1408_w8_S64x1408_w32) (broadcast S64x1408 134744072#32)) (broadcast S64x1408 4#32)))
      bitcasts_S64x1408_w32_S256x1408_w8 (ix2 r l) = loByte (W (ix2 r l)) :=
  bytes_apply W bitcasts_S256x1408_w8_S64x1408_w32 bitcasts_S64x1408_w32_S256x1408_w8 loWord loByte loWord_bits r l

/-- The eight-bit codes of the high halves. -/
theorem hi_apply (W : IVec S256x1408 8) (r : Fin 256) (l : Fin 1408) :
    bitcast S256x1408 8 (ori (shrsi (andi (bitcast S64x1408 32 W bitcasts_S256x1408_w8_S64x1408_w32) (broadcast S64x1408 1886417008#32)) (broadcast S64x1408 2#32))
        (andi (bitcast S64x1408 32 W bitcasts_S256x1408_w8_S64x1408_w32) (broadcast S64x1408 2155905152#32)))
      bitcasts_S64x1408_w32_S256x1408_w8 (ix2 r l) = hiByte (W (ix2 r l)) :=
  bytes_apply W bitcasts_S256x1408_w8_S64x1408_w32 bitcasts_S64x1408_w32_S256x1408_w8 hiWord hiByte hiWord_bits r l

/-- The packed bytes of one head, read without the leading axis. -/
theorem packed_apply (w : Vec Ideal S1x256x1408 .i8) (r : Fin 256) (l : Fin 1408) :
    shapeCast S256x1408 w shapeCasts_S1x256x1408_S256x1408 (ix2 r l) = w (ix3 0 r l) := by
  pointwise []

/-- The decoded weight at row `s` and column `l`. -/
theorem weights_apply (w : Vec Ideal S1x256x1408 .i8) (sc : Vec Ideal S1x16x1408 .i8) (s : Fin 512) (l : Fin 1408) :
    k0_pay3 w sc (ix2 s l)
      = refNib (nibble s.val (w (ix3 0 ⟨s.val / 2, by omega⟩ l))) * refE8 (sc (ix3 0 ⟨s.val / 32, by omega⟩ l)) := by
  pointwise [k0_pay3]
  rw [lo_apply, hi_apply, packed_apply, e8_val]
  unfold nibble
  split
  · rw [lo_val]
  · rw [hi_val]

end Cert.KernelIdeal.Group

end
-- ==== Proof.Block.lean ====
/- What the kernel leaves in its blocks at one grid point.

   `X` is the block of activations at the point. `codes_at`, `scales_at` and `rows_at` read the three results' blocks,
   and `scratch_at` the decoded weights, which the first point of each head writes and the other points keep. -/
module

public import proofs.«01_k».proof.Proof.Tile
public import proofs.«01_k».proof.Proof.Weights
public import Idealize.ShloMosaic.Lib.Pipeline.ValueKit

@[expose] public section

set_option maxRecDepth 16384

noncomputable section

namespace Cert.KernelIdeal.Group

open Idealize.ShloMosaic Idealize.SL.Sem Cert.KernelIdeal Cert.KernelIdeal.Gen Cert.Scale

section Pieces
variable (X : Vec Ideal S2x1x768x512 .bf16)

/-- A loaded group is 128 columns of a row of the block. -/
theorem ld_at (b g o : Nat) (hb : b < 2) (ho : o = g * 128)
    (inb : ∀ a : Fin S2x1x768x512.rank, ![b, 0, 0, o] a + ![1, 1, 768, 128] a ≤ S2x1x768x512.size a) (s : Fin 768) (l : Fin 128)
    (k : Fin 512) (hk : k.val = g * 128 + l.val) :
    View.ld X (Rect.unit ![b, 0, 0, o] ![1, 1, 768, 128] inb) (ix4 0 0 s l) = X (ix4 ⟨b, hb⟩ 0 s k) := by
  subst ho
  refine View.ld_unit_apply_of X _ _ inb _ _ fun a => ?_
  fin_cases a <;> simp [hk]

/-- Row `s` of batch row `b` of the block. -/
def row (b : Fin 2) (s : Fin 768) : Fin 512 → EReal := fun k => X (ix4 b 0 s k)

theorem row_congr {b b' : Fin 2} {s s' : Fin 768} (hb : b.val = b'.val) (hs : s.val = s'.val) : row X b s = row X b' s' := by
  rw [Fin.ext hb, Fin.ext hs]

/-- One piece of the stored codes. -/
theorem cod_piece (b g o : Nat) (hb : b < 2) (ho : o = g * 128)
    (inb : ∀ a : Fin S2x1x768x512.rank, ![b, 0, 0, o] a + ![1, 1, 768, 128] a ≤ S2x1x768x512.size a)
    (x : S1x1x768x128.Idx) (j : S2x1x768x512.Idx) (h0 : (j 0).val = b + (x 0).val) (h2 : (j 2).val = (x 2).val)
    (h3 : (j 3).val = o + (x 3).val) :
    codS (View.ld X (Rect.unit ![b, 0, 0, o] ![1, 1, 768, 128] inb)) x = code (row X (j 0) (j 2)) (j 3) := by
  obtain ⟨x0, x1, s, l, rfl⟩ : ∃ (x0 : Fin 1) (x1 : Fin 1) (s : Fin 768) (l : Fin 128), x = ix4 x0 x1 s l := ⟨_, _, _, _, eq_ix4 x⟩
  have z0 : x0 = 0 := Subsingleton.elim _ _
  have z1 : x1 = 0 := Subsingleton.elim _ _
  subst z0 z1
  rw [cod_row (row X ⟨b, hb⟩ s) g _ s (ld_at X b g o hb ho inb s) l (j 3) (by simpa [ho] using h3)]
  rw [row_congr X (b := ⟨b, hb⟩) (b' := j 0) (s' := j 2) (by simpa using h0.symm) (by simpa using h2.symm)]

/-- One piece of the stored scales. -/
theorem scl_piece (b g o : Nat) (hb : b < 2) (ho : o = g * 128)
    (inb : ∀ a : Fin S2x1x768x512.rank, ![b, 0, 0, o] a + ![1, 1, 768, 128] a ≤ S2x1x768x512.size a)
    (x : S1x1x1x768.Idx) (j : S2x1x4x768.Idx) (h0 : (j 0).val = b + (x 0).val) (h2 : (j 2).val = g + (x 2).val)
    (h3 : (j 3).val = (x 3).val) (k : Fin 512) (hk : k.val / 128 = (j 2).val) :
    sclS (View.ld X (Rect.unit ![b, 0, 0, o] ![1, 1, 768, 128] inb)) x = scale (vmax (grp (row X (j 0) (j 3)) k)) := by
  obtain ⟨x0, x1, x2, s, rfl⟩ : ∃ (x0 : Fin 1) (x1 : Fin 1) (x2 : Fin 1) (s : Fin 768), x = ix4 x0 x1 x2 s := ⟨_, _, _, _, eq_ix4 x⟩
  have z0 : x0 = 0 := Subsingleton.elim _ _
  have z1 : x1 = 0 := Subsingleton.elim _ _
  have z2 : x2 = 0 := Subsingleton.elim _ _
  subst z0 z1 z2
  rw [scl_row (row X ⟨b, hb⟩ s) g _ s (ld_at X b g o hb ho inb s) k (by simpa using hk.trans h2)]
  rw [row_congr X (b := ⟨b, hb⟩) (b' := j 0) (s' := j 3) (by simpa using h0.symm) (by simpa using h3.symm)]

/-- One batch row of the stored product. -/
theorem rows_piece (b : Nat) (hb : b < 2) (w : Vec Ideal S512x1408 .bf16)
    (inb0 : ∀ a : Fin S2x1x768x512.rank, ![b, 0, 0, 0] a + ![1, 1, 768, 128] a ≤ S2x1x768x512.size a)
    (inb1 : ∀ a : Fin S2x1x768x512.rank, ![b, 0, 0, 128] a + ![1, 1, 768, 128] a ≤ S2x1x768x512.size a)
    (inb2 : ∀ a : Fin S2x1x768x512.rank, ![b, 0, 0, 256] a + ![1, 1, 768, 128] a ≤ S2x1x768x512.size a)
    (inb3 : ∀ a : Fin S2x1x768x512.rank, ![b, 0, 0, 384] a + ![1, 1, 768, 128] a ≤ S2x1x768x512.size a)
    (x : S1x1x768x1408.Idx) (j : S2x1x768x1408.Idx) (h0 : (j 0).val = b + (x 0).val) (h2 : (j 2).val = (x 2).val)
    (h3 : (j 3).val = (x 3).val) :
    rowsS (View.ld X (Rect.unit ![b, 0, 0, 0] ![1, 1, 768, 128] inb0)) (View.ld X (Rect.unit ![b, 0, 0, 128] ![1, 1, 768, 128] inb1))
        (View.ld X (Rect.unit ![b, 0, 0, 256] ![1, 1, 768, 128] inb2)) (View.ld X (Rect.unit ![b, 0, 0, 384] ![1, 1, 768, 128] inb3)) w x
      = ∑ k : Fin 512, quant (row X (j 0) (j 2)) k * w (ix2 k (j 3)) := by
  obtain ⟨x0, x1, s, o, rfl⟩ : ∃ (x0 : Fin 1) (x1 : Fin 1) (s : Fin 768) (o : Fin 1408), x = ix4 x0 x1 s o := ⟨_, _, _, _, eq_ix4 x⟩
  have z0 : x0 = 0 := Subsingleton.elim _ _
  have z1 : x1 = 0 := Subsingleton.elim _ _
  subst z0 z1
  rw [rows_row (row X ⟨b, hb⟩ s) _ _ _ _ w s o (ld_at X b 0 0 hb rfl inb0 s) (ld_at X b 1 128 hb rfl inb1 s)
    (ld_at X b 2 256 hb rfl inb2 s) (ld_at X b 3 384 hb rfl inb3 s)]
  rw [row_congr X (b := ⟨b, hb⟩) (b' := j 0) (s' := j 2) (by simpa using h0.symm) (by simpa using h2.symm)]
  have e : o = j 3 := Fin.ext (by simpa using h3.symm)
  rw [e]

end Pieces

end Cert.KernelIdeal.Group

end
-- ==== Proof.Points.lean ====
/- What the kernel leaves in its blocks at one grid point.

   `codes_at`, `scales_at` and `rows_at` read the three results' blocks at a point, from the block of activations there
   and the decoded weights held in scratch. `scratch_at` says what the scratch holds: the first of each head's six
   points decodes the weights and the others keep them. -/
module

public import proofs.«01_k».proof.Proof.Block
public import proofs.«01_k».proof.Proof.Weights
public import Idealize.ShloMosaic.Lib.Pipeline.ValueKit.Held
public import Idealize.ShloMosaic.Lib.Pipeline.ReadBack

@[expose] public section

set_option maxRecDepth 16384

noncomputable section

namespace Cert.KernelIdeal.Group

open Idealize.ShloMosaic Idealize.SL.Sem Cert.KernelIdeal Cert.KernelIdeal.Gen Cert.Scale Idealize.ShloMosaic.Pipeline

variable (m : (ℓ : Loc nD τ sig) → Buf (Elt Ideal) ℓ) (c : Dev nD) (t : Fin cfg0.N)

/-- The codes' block (the head's first point). -/
theorem codes_A (h : t.val % 6 = 0) (j : S2x1x768x512.Idx) :
    (outsAt0 (F := Ideal) m c t.val t.isLt).2.1 j = code (row (iblk m c 0 t) (j 0) (j 2)) (j 3) := by
  rw [outsAt0_A m c t h]
  frame_out
  simp only [codS_00, codS_01, codS_02, codS_03, codS_10, codS_11, codS_12, codS_13]
  clear h
  canon_tiles x h
  case piece0 => exact cod_piece _ 1 3 384 (by omega) rfl _ x j (by omega) (by omega) (by omega)
  case piece1 => exact cod_piece _ 1 2 256 (by omega) rfl _ x j (by omega) (by omega) (by omega)
  case piece2 => exact cod_piece _ 1 1 128 (by omega) rfl _ x j (by omega) (by omega) (by omega)
  case piece3 => exact cod_piece _ 1 0 0 (by omega) rfl _ x j (by omega) (by omega) (by omega)
  case piece4 => exact cod_piece _ 0 3 384 (by omega) rfl _ x j (by omega) (by omega) (by omega)
  case piece5 => exact cod_piece _ 0 2 256 (by omega) rfl _ x j (by omega) (by omega) (by omega)
  case piece6 => exact cod_piece _ 0 1 128 (by omega) rfl _ x j (by omega) (by omega) (by omega)
  case piece7 => exact cod_piece _ 0 0 0 (by omega) rfl _ x j (by omega) (by omega) (by omega)

/-- The codes' block (a later point of the head). -/
theorem codes_B (h : ¬ t.val % 6 = 0) (j : S2x1x768x512.Idx) :
    (outsAt0 (F := Ideal) m c t.val t.isLt).2.1 j = code (row (iblk m c 0 t) (j 0) (j 2)) (j 3) := by
  rw [outsAt0_B m c t h]
  frame_out
  simp only [codS_00, codS_01, codS_02, codS_03, codS_10, codS_11, codS_12, codS_13]
  clear h
  canon_tiles x h
  case piece0 => exact cod_piece _ 1 3 384 (by omega) rfl _ x j (by omega) (by omega) (by omega)
  case piece1 => exact cod_piece _ 1 2 256 (by omega) rfl _ x j (by omega) (by omega) (by omega)
  case piece2 => exact cod_piece _ 1 1 128 (by omega) rfl _ x j (by omega) (by omega) (by omega)
  case piece3 => exact cod_piece _ 1 0 0 (by omega) rfl _ x j (by omega) (by omega) (by omega)
  case piece4 => exact cod_piece _ 0 3 384 (by omega) rfl _ x j (by omega) (by omega) (by omega)
  case piece5 => exact cod_piece _ 0 2 256 (by omega) rfl _ x j (by omega) (by omega) (by omega)
  case piece6 => exact cod_piece _ 0 1 128 (by omega) rfl _ x j (by omega) (by omega) (by omega)
  case piece7 => exact cod_piece _ 0 0 0 (by omega) rfl _ x j (by omega) (by omega) (by omega)

/-- The scales' block (the head's first point). -/
theorem scales_A (h : t.val % 6 = 0) (j : S2x1x4x768.Idx) (k : Fin 512) (hk : k.val / 128 = (j 2).val) :
    (outsAt0 (F := Ideal) m c t.val t.isLt).2.2.1 j = scale (vmax (grp (row (iblk m c 0 t) (j 0) (j 3)) k)) := by
  rw [outsAt0_A m c t h]
  frame_out
  simp only [sclS_00, sclS_01, sclS_02, sclS_03, sclS_10, sclS_11, sclS_12, sclS_13]
  clear h
  canon_tiles x h
  case piece0 => exact scl_piece _ 1 3 384 (by omega) rfl _ x j (by omega) (by omega) (by omega) k hk
  case piece1 => exact scl_piece _ 1 2 256 (by omega) rfl _ x j (by omega) (by omega) (by omega) k hk
  case piece2 => exact scl_piece _ 1 1 128 (by omega) rfl _ x j (by omega) (by omega) (by omega) k hk
  case piece3 => exact scl_piece _ 1 0 0 (by omega) rfl _ x j (by omega) (by omega) (by omega) k hk
  case piece4 => exact scl_piece _ 0 3 384 (by omega) rfl _ x j (by omega) (by omega) (by omega) k hk
  case piece5 => exact scl_piece _ 0 2 256 (by omega) rfl _ x j (by omega) (by omega) (by omega) k hk
  case piece6 => exact scl_piece _ 0 1 128 (by omega) rfl _ x j (by omega) (by omega) (by omega) k hk
  case piece7 => exact scl_piece _ 0 0 0 (by omega) rfl _ x j (by omega) (by omega) (by omega) k hk

/-- The scales' block (a later point of the head). -/
theorem scales_B (h : ¬ t.val % 6 = 0) (j : S2x1x4x768.Idx) (k : Fin 512) (hk : k.val / 128 = (j 2).val) :
    (outsAt0 (F := Ideal) m c t.val t.isLt).2.2.1 j = scale (vmax (grp (row (iblk m c 0 t) (j 0) (j 3)) k)) := by
  rw [outsAt0_B m c t h]
  frame_out
  simp only [sclS_00, sclS_01, sclS_02, sclS_03, sclS_10, sclS_11, sclS_12, sclS_13]
  clear h
  canon_tiles x h
  case piece0 => exact scl_piece _ 1 3 384 (by omega) rfl _ x j (by omega) (by omega) (by omega) k hk
  case piece1 => exact scl_piece _ 1 2 256 (by omega) rfl _ x j (by omega) (by omega) (by omega) k hk
  case piece2 => exact scl_piece _ 1 1 128 (by omega) rfl _ x j (by omega) (by omega) (by omega) k hk
  case piece3 => exact scl_piece _ 1 0 0 (by omega) rfl _ x j (by omega) (by omega) (by omega) k hk
  case piece4 => exact scl_piece _ 0 3 384 (by omega) rfl _ x j (by omega) (by omega) (by omega) k hk
  case piece5 => exact scl_piece _ 0 2 256 (by omega) rfl _ x j (by omega) (by omega) (by omega) k hk
  case piece6 => exact scl_piece _ 0 1 128 (by omega) rfl _ x j (by omega) (by omega) (by omega) k hk
  case piece7 => exact scl_piece _ 0 0 0 (by omega) rfl _ x j (by omega) (by omega) (by omega) k hk

/-- The codes' block. -/
theorem codes_at (j : S2x1x768x512.Idx) :
    (outsAt0 (F := Ideal) m c t.val t.isLt).2.1 j = code (row (iblk m c 0 t) (j 0) (j 2)) (j 3) := by
  by_cases h : t.val % 6 = 0
  · exact codes_A m c t h j
  · exact codes_B m c t h j

/-- The scales' block. -/
theorem scales_at (j : S2x1x4x768.Idx) (k : Fin 512) (hk : k.val / 128 = (j 2).val) :
    (outsAt0 (F := Ideal) m c t.val t.isLt).2.2.1 j = scale (vmax (grp (row (iblk m c 0 t) (j 0) (j 3)) k)) := by
  by_cases h : t.val % 6 = 0
  · exact scales_A m c t h j k hk
  · exact scales_B m c t h j k hk

/-- The head's first point decodes its weights into the scratch. -/
theorem scratch_A (h : t.val % 6 = 0) :
    (outsAt0 (F := Ideal) m c t.val t.isLt).2.2.2 = k0_pay3 (iblk m c 1 t) (iblk m c 2 t) := by
  rw [outsAt0_A m c t h]
  frame_out

/-- The head's later points keep the scratch. -/
theorem scratch_B (h : ¬ t.val % 6 = 0) :
    (outsAt0 (F := Ideal) m c t.val t.isLt).2.2.2
      = (outsAt0 (F := Ideal) m c (t.val - 1) (Nat.lt_of_le_of_lt (Nat.sub_le _ _) t.isLt)).2.2.2 := by
  rw [outsAt0_B m c t h]
  rfl

/-- The scratch holds the head's decoded weights at each of its points. -/
theorem scratch_at :
    (outsAt0 (F := Ideal) m c t.val t.isLt).2.2.2
      = k0_pay3 (iblk m c 1 ⟨6 * (t.val / 6), run_start_lt t⟩) (iblk m c 2 ⟨6 * (t.val / 6), run_start_lt t⟩) :=
  eq_of_write_hold (fun n h => (outsAt0 (F := Ideal) m c n h).2.2.2) 6 (fun t => k0_pay3 (iblk m c 1 t) (iblk m c 2 t))
    (fun t h => scratch_A m c t h) (fun t h => scratch_B m c t h) t

/-- The product's block (the head's first point). -/
theorem rows_A (h : t.val % 6 = 0) (j : S2x1x768x1408.Idx) (w : Vec Ideal S512x1408 .bf16)
    (hw : k0_pay3 (iblk m c 1 t) (iblk m c 2 t) = w) :
    (outsAt0 (F := Ideal) m c t.val t.isLt).1 j = ∑ k : Fin 512, quant (row (iblk m c 0 t) (j 0) (j 2)) k * w (ix2 k (j 3)) := by
  rw [outsAt0_A m c t h]
  frame_out
  simp only [deq_00, deq_01, deq_02, deq_10, deq_11, deq_12, rows_0, rows_1]
  rw [hw]
  clear h hw
  canon_tiles x h
  case piece0 => exact rows_piece _ 1 (by omega) _ _ _ _ _ x j (by omega) (by omega) (by omega)
  case piece1 => exact rows_piece _ 0 (by omega) _ _ _ _ _ x j (by omega) (by omega) (by omega)

/-- The product's block (a later point of the head). -/
theorem rows_B (h : ¬ t.val % 6 = 0) (j : S2x1x768x1408.Idx) (w : Vec Ideal S512x1408 .bf16)
    (hw : (outsAt0 (F := Ideal) m c (t.val - 1) (Nat.lt_of_le_of_lt (Nat.sub_le _ _) t.isLt)).2.2.2 = w) :
    (outsAt0 (F := Ideal) m c t.val t.isLt).1 j = ∑ k : Fin 512, quant (row (iblk m c 0 t) (j 0) (j 2)) k * w (ix2 k (j 3)) := by
  rw [outsAt0_B m c t h]
  frame_out
  simp only [deq_00, deq_01, deq_02, deq_10, deq_11, deq_12, rows_0, rows_1, read_unread_whole]
  rw [hw]
  clear h hw
  canon_tiles x h
  case piece0 => exact rows_piece _ 1 (by omega) _ _ _ _ _ x j (by omega) (by omega) (by omega)
  case piece1 => exact rows_piece _ 0 (by omega) _ _ _ _ _ x j (by omega) (by omega) (by omega)

/-- The product's block. -/
theorem rows_at (j : S2x1x768x1408.Idx) :
    (outsAt0 (F := Ideal) m c t.val t.isLt).1 j
      = ∑ k : Fin 512, quant (row (iblk m c 0 t) (j 0) (j 2)) k * (outsAt0 (F := Ideal) m c t.val t.isLt).2.2.2 (ix2 k (j 3)) := by
  by_cases h : t.val % 6 = 0
  · exact rows_A m c t h j _ (scratch_A m c t h).symm
  · exact rows_B m c t h j _ (scratch_B m c t h).symm

end Cert.KernelIdeal.Group

end
-- ==== Proof.Arrays.lean ====
/- What the kernel leaves in its three result arrays, read at an index.

   The blocks of the 120 points tile each array, so an array's entry is the entry of the one block that holds it
   (`codes_array`, `scales_array`, `rows_array`). The activations are read through the array the kernel is launched on,
   `Gen.V m c main_v0`: the first argument with its sequence and head axes exchanged. -/
module

public import proofs.«01_k».proof.Proof.Points
public import Idealize.ShloMosaic.Lib.Pipeline.ValueKit

@[expose] public section

set_option maxRecDepth 16384

noncomputable section

namespace Cert.KernelIdeal.Group

open Idealize.ShloMosaic Idealize.ShloMosaic.TcCoe Idealize.SL.Sem Cert.KernelIdeal Cert.KernelIdeal.Gen Cert.Scale Cert.Decode
open Idealize.ShloMosaic.Pipeline (Dat)

variable (m : (ℓ : Loc nD τ sig) → Buf (Elt Ideal) ℓ) (c : Dev nD)

/-- The windows' block numbers at point `t`: the head is `t / 6` and the pair of batches is `t % 6`. -/
theorem idx : ∀ t : Fin cfg0.N, win0_0.index t = ![t.val % 6, t.val / 6, 0, 0] ∧ win0_1.index t = ![t.val / 6, 0, 0]
    ∧ win0_2.index t = ![t.val / 6, 0, 0] ∧ win0_3.index t = ![t.val % 6, t.val / 6, 0, 0]
    ∧ win0_4.index t = ![t.val % 6, t.val / 6, 0, 0] ∧ win0_5.index t = ![t.val % 6, t.val / 6, 0, 0] :=
  (by decide +kernel : ∀ t : Fin grid0.N, _)

/-- The row of 512 activations of batch `b`, head `h`, position `s`, in the array the kernel reads. -/
def arow (X : FVec Ideal S12x20x768x512 .bf16) (b : Fin 12) (h : Fin 20) (s : Fin 768) : Fin 512 → EReal :=
  fun k => X (ix4 b h s k)

/-- The codes of every row. -/
def codesF (X : FVec Ideal S12x20x768x512 .bf16) : FVec Ideal S12x20x768x512 .fp8e4m3 :=
  fun i => code (arow X (i 0) (i 1) (i 2)) (i 3)

/-- The scales of every row's four groups. -/
def scalesF (X : FVec Ideal S12x20x768x512 .bf16) : FVec Ideal S12x20x4x768 .f32 :=
  fun i => scale (vmax (grp (arow X (i 0) (i 1) (i 3)) ⟨(i 2).val * 128, by have h : (i 2).val < 4 := (i 2).isLt; omega⟩))

/-- A decoded weight of head `h`: the signed magnitude of its four-bit code times its group's scale. -/
def weight (W : Vec Ideal S20x256x1408 .i8) (E : Vec Ideal S20x16x1408 .i8) (h : Fin 20) (k : Fin 512) (l : Fin 1408) : EReal :=
  refNib (nibble k.val (W (ix3 h ⟨k.val / 2, by omega⟩ l))) * refE8 (E (ix3 h ⟨k.val / 32, by omega⟩ l))

/-- The products of every row with its head's decoded weights. -/
def rowsF (X : FVec Ideal S12x20x768x512 .bf16) (W : Vec Ideal S20x256x1408 .i8) (E : Vec Ideal S20x16x1408 .i8) :
    FVec Ideal S12x20x768x1408 .bf16 :=
  fun i => ∑ k : Fin 512, quant (arow X (i 0) (i 1) (i 2)) k * weight W E (i 1) k (i 3)

/-- A block of activations, read in the array. -/
theorem x_block (t : Fin cfg0.N) (b : Fin 2) (s : Fin 768) (k : Fin 512) (B : Fin 12) (h : Fin 20)
    (hB : B.val = t.val % 6 * 2 + b.val) (hh : h.val = t.val / 6) :
    iblk m c 0 t (ix4 b 0 s k) = V m c main_v0 (ix4 B h s k) := by
  blk_point [iblk, idx t]

/-- A block of packed weights, read in the array. -/
theorem w_block (t : Fin cfg0.N) (r : Fin 256) (l : Fin 1408) (h : Fin 20) (hh : h.val = t.val / 6) :
    iblk m c 1 t (ix3 0 r l) = m ((c : Thread nD τ).loc main_arg1) (ix3 h r l) := by
  blk_point [iblk, V, idx t]

/-- A block of weight scales, read in the array. -/
theorem e_block (t : Fin cfg0.N) (r : Fin 16) (l : Fin 1408) (h : Fin 20) (hh : h.val = t.val / 6) :
    iblk m c 2 t (ix3 0 r l) = m ((c : Thread nD τ).loc main_arg2) (ix3 h r l) := by
  blk_point [iblk, V, idx t]

/-- A row of a point's block of activations is a row of the array. -/
theorem row_block (t : Fin cfg0.N) (b : Fin 2) (s : Fin 768) (B : Fin 12) (h : Fin 20)
    (hB : B.val = t.val % 6 * 2 + b.val) (hh : h.val = t.val / 6) :
    row (iblk m c 0 t) b s = arow (V m c main_v0) B h s :=
  funext fun k => x_block m c t b s k B h hB hh

/-- A decoded weight held at a point is the head's. -/
theorem scratch_block (t : Fin cfg0.N) (k : Fin 512) (l : Fin 1408) (h : Fin 20) (hh : h.val = t.val / 6) :
    (outsAt0 (F := Ideal) m c t.val t.isLt).2.2.2 (ix2 k l)
      = weight (m ((c : Thread nD τ).loc main_arg1)) (m ((c : Thread nD τ).loc main_arg2)) h k l := by
  rw [scratch_at m c t, weights_apply]
  unfold weight
  rw [w_block m c _ _ _ h (by show h.val = 6 * (t.val / 6) / 6; omega), e_block m c _ _ _ h (by show h.val = 6 * (t.val / 6) / 6; omega)]

/-- Where an entry of a block of products lies in the array. -/
theorem place3 (t : Fin cfg0.N) (b : Fin 2) (s : Fin 768) (k : Fin 1408) (B : Fin 12) (h : Fin 20)
    (hB : B.val = t.val % 6 * 2 + b.val) (hh : h.val = t.val / 6) :
    ((cfg0.win 3).blk t).view.emb (ix4 b 0 s k) = ix4 B h s k := by
  blk_ext [idx t]

/-- Where an entry of a block of codes lies in the array. -/
theorem place4 (t : Fin cfg0.N) (b : Fin 2) (s : Fin 768) (k : Fin 512) (B : Fin 12) (h : Fin 20)
    (hB : B.val = t.val % 6 * 2 + b.val) (hh : h.val = t.val / 6) :
    ((cfg0.win 4).blk t).view.emb (ix4 b 0 s k) = ix4 B h s k := by
  blk_ext [idx t]

/-- Where an entry of a block of scales lies in the array. -/
theorem place5 (t : Fin cfg0.N) (b : Fin 2) (g : Fin 4) (s : Fin 768) (B : Fin 12) (h : Fin 20)
    (hB : B.val = t.val % 6 * 2 + b.val) (hh : h.val = t.val / 6) :
    ((cfg0.win 5).blk t).view.emb (ix4 b 0 g s) = ix4 B h g s := by
  blk_ext [idx t]

/-- The batch and the head that a point's block entry belongs to. -/
theorem coords (t : Fin cfg0.N) (b : Fin 2) : ∃ (B : Fin 12) (h : Fin 20), B.val = t.val % 6 * 2 + b.val ∧ h.val = t.val / 6 := by
  have ht : t.val < 120 := t.isLt
  exact ⟨⟨t.val % 6 * 2 + b.val, by omega⟩, ⟨t.val / 6, by omega⟩, rfl, rfl⟩

/-- The codes' array after the run. -/
theorem codes_array : (dats m 0 c).arrAt 4 (cfgs 0).N = codesF (V m c main_v0) := by
  refine (dats m 0 c).arrAt_eq_of_covers 4 _ (by decide +kernel) fun t _ y => ?_
  blk_simp
  rw [after0_4]
  obtain ⟨b, z, s, k, rfl⟩ : ∃ (b : Fin 2) (z : Fin 1) (s : Fin 768) (k : Fin 512), y = ix4 b z s k := ⟨_, _, _, _, eq_ix4 y⟩
  obtain rfl : z = 0 := Subsingleton.elim _ _
  obtain ⟨B, h, hB, hh⟩ := coords t b
  refine (codes_at m c t _).trans ?_
  have e := place4 t b s k B h hB hh
  refine Eq.trans ?_ (congrArg (codesF (V m c main_v0)) e.symm)
  show code (row (iblk m c 0 t) b s) k = code (arow (V m c main_v0) B h s) k
  rw [row_block m c t b s B h hB hh]

/-- The scales' array after the run. -/
theorem scales_array : (dats m 0 c).arrAt 5 (cfgs 0).N = scalesF (V m c main_v0) := by
  refine (dats m 0 c).arrAt_eq_of_covers 5 _ (by decide +kernel) fun t _ y => ?_
  blk_simp
  rw [after0_5]
  obtain ⟨b, z, g, s, rfl⟩ : ∃ (b : Fin 2) (z : Fin 1) (g : Fin 4) (s : Fin 768), y = ix4 b z g s := ⟨_, _, _, _, eq_ix4 y⟩
  obtain rfl : z = 0 := Subsingleton.elim _ _
  obtain ⟨B, h, hB, hh⟩ := coords t b
  refine (scales_at m c t _ ⟨g.val * 128, by omega⟩ (by show g.val * 128 / 128 = g.val; omega)).trans ?_
  have e := place5 t b g s B h hB hh
  refine Eq.trans ?_ (congrArg (scalesF (V m c main_v0)) e.symm)
  show scale (vmax (grp (row (iblk m c 0 t) b s) _)) = scale (vmax (grp (arow (V m c main_v0) B h s) _))
  rw [row_block m c t b s B h hB hh]
  rfl

/-- The products' array after the run. -/
theorem rows_array : (dats m 0 c).arrAt 3 (cfgs 0).N = rowsF (V m c main_v0) (m ((c : Thread nD τ).loc main_arg1)) (m ((c : Thread nD τ).loc main_arg2)) := by
  refine (dats m 0 c).arrAt_eq_of_covers 3 _ (by decide +kernel) fun t _ y => ?_
  blk_simp
  rw [after0_3]
  obtain ⟨b, z, s, l, rfl⟩ : ∃ (b : Fin 2) (z : Fin 1) (s : Fin 768) (l : Fin 1408), y = ix4 b z s l := ⟨_, _, _, _, eq_ix4 y⟩
  obtain rfl : z = 0 := Subsingleton.elim _ _
  obtain ⟨B, h, hB, hh⟩ := coords t b
  refine (rows_at m c t _).trans ?_
  have e := place3 t b s l B h hB hh
  refine Eq.trans ?_ (congrArg (rowsF (V m c main_v0) _ _) e.symm)
  show ∑ k : Fin 512, quant (row (iblk m c 0 t) b s) k * (outsAt0 (F := Ideal) m c t.val t.isLt).2.2.2 (ix2 k l)
    = ∑ k : Fin 512, quant (arow (V m c main_v0) B h s) k * weight _ _ h k l
  rw [row_block m c t b s B h hB hh]
  exact Finset.sum_congr rfl fun k _ => by rw [scratch_block m c t k l h hh]

end Cert.KernelIdeal.Group
-- ==== Proof.KernelRun.lean ====
/- The kernel's three results, as functions of its arguments.

   `entry_x` reads the array that the kernel is launched on, and `run_vals` is the kernel's run: each result is the transpose of
   one of the arrays of `Arrays.lean`. -/
module

public import proofs.«01_k».proof.Proof.Arrays
public import Idealize.ShloMosaic.Lib.Claim

@[expose] public section

set_option maxRecDepth 16384

noncomputable section

namespace Cert.KernelIdeal.Group

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- The activations with the sequence and head axes exchanged. -/
def xT (x : FVec Ideal S12x768x20x512 .bf16) : FVec Ideal S12x20x768x512 .bf16 :=
  transpose S12x20x768x512 [0, 2, 1, 3] x transposes_S12x768x20x512_S12x20x768x512_0_2_1_3

/-- An entry of the exchanged activations. -/
theorem xT_apply (x : FVec Ideal S12x768x20x512 .bf16) (b : Fin 12) (h : Fin 20) (s : Fin 768) (k : Fin 512) :
    xT x (ix4 b h s k) = x (ix4 b s h k) := by
  pointwise [xT]

/-- The array the kernel is launched on. -/
theorem entry_x : (V m c main_v0 : FVec Ideal S12x20x768x512 .bf16) = xT (m ((c.tc : Thread nD τ).loc main_arg0)) := by
  entry_read
  rfl

/-- The products, with the sequence and head axes exchanged back. -/
def yF (x : FVec Ideal S12x768x20x512 .bf16) (w : Vec Ideal S20x256x1408 .i8) (e : Vec Ideal S20x16x1408 .i8) :
    FVec Ideal S12x768x20x1408 .bf16 :=
  transpose S12x768x20x1408 [0, 2, 1, 3] (rowsF (xT x) w e) transposes_S12x20x768x1408_S12x768x20x1408_0_2_1_3

/-- The codes, with the sequence and head axes exchanged back. -/
def qF (x : FVec Ideal S12x768x20x512 .bf16) : FVec Ideal S12x768x20x512 .fp8e4m3 :=
  transpose S12x768x20x512 [0, 2, 1, 3] (codesF (xT x)) transposes_S12x20x768x512_S12x768x20x512_0_2_1_3

/-- The scales, with the sequence axis brought forward. -/
def sF (x : FVec Ideal S12x768x20x512 .bf16) : FVec Ideal S12x768x20x4 .f32 :=
  transpose S12x768x20x4 [0, 3, 1, 2] (scalesF (xT x)) transposes_S12x20x4x768_S12x768x20x4_0_3_1_2

/-- A product at an index. -/
theorem yF_apply (x : FVec Ideal S12x768x20x512 .bf16) (w : Vec Ideal S20x256x1408 .i8) (e : Vec Ideal S20x16x1408 .i8)
    (b : Fin 12) (s : Fin 768) (h : Fin 20) (l : Fin 1408) : yF x w e (ix4 b s h l) = rowsF (xT x) w e (ix4 b h s l) := by
  unfold yF
  generalize rowsF (xT x) w e = z
  pointwise []

/-- A code at an index. -/
theorem qF_apply (x : FVec Ideal S12x768x20x512 .bf16) (b : Fin 12) (s : Fin 768) (h : Fin 20) (k : Fin 512) :
    qF x (ix4 b s h k) = codesF (xT x) (ix4 b h s k) := by
  unfold qF
  generalize codesF (xT x) = z
  pointwise []

/-- A scale at an index. -/
theorem sF_apply (x : FVec Ideal S12x768x20x512 .bf16) (b : Fin 12) (s : Fin 768) (h : Fin 20) (g : Fin 4) :
    sF x (ix4 b s h g) = scalesF (xT x) (ix4 b h g s) := by
  unfold sF
  generalize scalesF (xT x) = z
  pointwise []

/-- Core `c`'s buffer contents when the pallas_call is left. -/
abbrev exitV : Valuation τ sig (Elt Ideal) :=
  Pipeline.withArrays spec0 c (V0 m c) fun w => (dats m 0 c).arrAt w cfg0.N

/-- The products' buffer when the pallas_call is left. -/
theorem exit_rows : exitV m c (Proc.devRef .tc main_v1_0)
    = rowsF (xT (m ((c.tc : Thread nD τ).loc main_arg0))) (m ((c.tc : Thread nD τ).loc main_arg1)) (m ((c.tc : Thread nD τ).loc main_arg2)) := by
  refine (Pipeline.withArrays_arr spec0 launch0.win.arr_inj c (V0 m c) _ 3).trans ((rows_array m c).trans ?_)
  rw [← entry_x]

/-- The codes' buffer when the pallas_call is left. -/
theorem exit_codes : exitV m c (Proc.devRef .tc main_v1_1) = codesF (xT (m ((c.tc : Thread nD τ).loc main_arg0))) := by
  refine (Pipeline.withArrays_arr spec0 launch0.win.arr_inj c (V0 m c) _ 4).trans ((codes_array m c).trans ?_)
  rw [← entry_x]

/-- The scales' buffer when the pallas_call is left. -/
theorem exit_scales : exitV m c (Proc.devRef .tc main_v1_2) = scalesF (xT (m ((c.tc : Thread nD τ).loc main_arg0))) := by
  refine (Pipeline.withArrays_arr spec0 launch0.win.arr_inj c (V0 m c) _ 5).trans ((scales_array m c).trans ?_)
  rw [← entry_x]

/-- The products' result buffer after the last host operations. -/
theorem fin_rows : Pipeline.afterTail₀ cfgs (dats m) 0 (V0 m) [hostOps1] c main_v2
    = yF (m ((c.tc : Thread nD τ).loc main_arg0)) (m ((c.tc : Thread nD τ).loc main_arg1)) (m ((c.tc : Thread nD τ).loc main_arg2)) := by
  show StableHlo.after hostOps1 (exitV m c) (Proc.devRef .tc main_v2) = _
  have e := exit_rows m c
  generalize exitV m c = E at e ⊢
  simp only [hostOps1]
  after_results_simp
  rw [e]
  rfl

/-- The codes' result buffer after the last host operations. -/
theorem fin_codes : Pipeline.afterTail₀ cfgs (dats m) 0 (V0 m) [hostOps1] c main_v3 = qF (m ((c.tc : Thread nD τ).loc main_arg0)) := by
  show StableHlo.after hostOps1 (exitV m c) (Proc.devRef .tc main_v3) = _
  have e := exit_codes m c
  generalize exitV m c = E at e ⊢
  simp only [hostOps1]
  after_results_simp
  rw [e]
  rfl

/-- The scales' result buffer after the last host operations. -/
theorem fin_scales : Pipeline.afterTail₀ cfgs (dats m) 0 (V0 m) [hostOps1] c main_v4 = sF (m ((c.tc : Thread nD τ).loc main_arg0)) := by
  show StableHlo.after hostOps1 (exitV m c) (Proc.devRef .tc main_v4) = _
  have e := exit_scales m c
  generalize exitV m c = E at e ⊢
  simp only [hostOps1]
  after_results_simp
  rw [e]
  rfl

/-- The kernel's run: its three results and its arguments. -/
theorem run_vals (g : Dev nD → PrngReg) :
    θ_run (defs (F := Ideal)) (onTc (τ := τ) (main (F := Ideal))) ⟨m, fun _ => 0, g⟩ fun r => ∀ c : Dev nD,
      r.2.mem ((c.tc : Thread nD τ).loc main_v2) = yF (m ((c.tc : Thread nD τ).loc main_arg0)) (m ((c.tc : Thread nD τ).loc main_arg1)) (m ((c.tc : Thread nD τ).loc main_arg2))
      ∧ r.2.mem ((c.tc : Thread nD τ).loc main_v3) = qF (m ((c.tc : Thread nD τ).loc main_arg0))
      ∧ r.2.mem ((c.tc : Thread nD τ).loc main_v4) = sF (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (θ_run_and (Gen.run_main m g) (Gen.unchanged m g))
  obtain ⟨h1, h2⟩ := h
  exact ⟨((h1 c).2 main_v2 (Pipeline.mem_restRefs_of main_v2 (by decide) (by decide))).trans (fin_rows m c),
    ((h1 c).2 main_v3 (Pipeline.mem_restRefs_of main_v3 (by decide) (by decide))).trans (fin_codes m c),
    ((h1 c).2 main_v4 (Pipeline.mem_restRefs_of main_v4 (by decide) (by decide))).trans (fin_scales m c), h2 c⟩

end Cert.KernelIdeal.Group

end
-- ==== Proof.RefVals.lean ====
/- The reference's quantiser, stage by stage.

   Each stage is the reference's own host term, named as a function of the activations; the lemmas read each stage at
   one index. `entry_q` and `exit_scale` say that the stages are what the reference's buffers hold. -/
module

public import proofs.«01_k».proof.Proof.Bound
public import proofs.«01_k».proof.Proof.Gen.ReferenceIdeal.Run

@[expose] public section

set_option maxRecDepth 16384

noncomputable section

namespace Cert.ReferenceIdeal.Vals

open Idealize.ShloMosaic Idealize.ShloMosaic.TcCoe Idealize.SL.Sem Idealize.ShloMosaic.StableHlo
open Cert.ReferenceIdeal Cert.ReferenceIdeal.Gen Cert.ReferenceIdeal.Value

section Stages
variable {F : FTy → Type} [FloatOps F]

/-- The activations in f32, in groups of 128. -/
def grpV (x : FVec F S12x768x20x512 .bf16) : FVec F S12x768x20x4x128 .f32 :=
  shapeCast S12x768x20x4x128 (extf .f32 x bitsLt_bf16_f32) shapeCasts_S12x768x20x512_S12x768x20x4x128

/-- The largest magnitude of each group, over 448. -/
def maxV (x : FVec F S12x768x20x512 .bf16) : FVec F S12x768x20x4 .f32 :=
  mulf (Host.reduce FloatOps.maximumf (Host.absf (grpV x)) (constant S_ .f32 0xFF800000#32) reducesTo_S12x768x20x4x128_S12x768x20x4_d4 h_S_) (broadcastInDim S12x768x20x4 ![] bcast_S_S12x768x20x4 (constant S_ .f32 0x3B124925#32))

/-- The exponent of each group. -/
def expV (x : FVec F S12x768x20x512 .bf16) : FVec F S12x768x20x4 .f32 :=
  select (ori (cmpf .olt (maxV x) (broadcastInDim S12x768x20x4 ![] bcast_S_S12x768x20x4 (constant S_ .f32 0x00800000#32))) (cmpf .oeq (maxV x) (broadcastInDim S12x768x20x4 ![] bcast_S_S12x768x20x4 (constant S_ .f32 0x7F800000#32)))) (broadcastInDim S12x768x20x4 ![] bcast_S_S12x768x20x4 (constant S_ .f32 0x00000000#32)) (addf (Host.floor (Host.divf (Host.log (maxV x)) (broadcastInDim S12x768x20x4 ![] bcast_S_S12x768x20x4 (Host.log (constant S_ .f32 0x40000000#32))))) (broadcastInDim S12x768x20x4 ![] bcast_S_S12x768x20x4 (constant S_ .f32 0x3F800000#32)))

/-- The scale of each group. -/
def scaleV (x : FVec F S12x768x20x512 .bf16) : FVec F S12x768x20x4 .f32 :=
  Host.powf (broadcastInDim S12x768x20x4 ![] bcast_S_S12x768x20x4 (constant S_ .f32 0x40000000#32)) (expV x)

/-- The reciprocal scale of each group. -/
def invV (x : FVec F S12x768x20x512 .bf16) : FVec F S12x768x20x4 .f32 :=
  Host.powf (broadcastInDim S12x768x20x4 ![] bcast_S_S12x768x20x4 (constant S_ .f32 0x40000000#32)) (Host.negf (expV x))

/-- The scaled and clipped activations. -/
def qV (x : FVec F S12x768x20x512 .bf16) : FVec F S12x768x20x512 .f32 :=
  shapeCast S12x768x20x512 (minimumf (broadcastInDim S12x768x20x4x128 ![] bcast_S_S12x768x20x4x128 (constant S_ .f32 0x43E00000#32)) (maximumf (broadcastInDim S12x768x20x4x128 ![] bcast_S_S12x768x20x4x128 (constant S_ .f32 0xC3E00000#32)) (mulf (grpV x) (broadcastInDim S12x768x20x4x128 ![0, 1, 2, 3, 4] bcast_S12x768x20x4x1_S12x768x20x4x128_0_1_2_3_4 (broadcastInDim S12x768x20x4x1 ![0, 1, 2, 3] bcast_S12x768x20x4_S12x768x20x4x1_0_1_2_3 (invV x)))))) shapeCasts_S12x768x20x4x128_S12x768x20x512

variable (m : (ℓ : Loc nD τ sig) → Buf (Elt F) ℓ)

/-- The scale buffer holds the scale stage of the activations. -/
theorem exit_scale (c : Dev nD) :
    exitV m c (Proc.devRef .tc main_v20) = scaleV (m ((c.tc : Thread nD τ).loc main_arg0)) := exit_main_v20 m c

/-- The scaled and clipped activations are what the rounding region reads. -/
theorem entry_q (c : Dev nD) : Gen.V m c main_v28 = qV (m ((c.tc : Thread nD τ).loc main_arg0)) := by
  show Gen.V0 m c (Proc.devRef .tc main_v28) = _
  simp only [Gen.V0, Gen.hostOps0, Gen.hostOps0_1, Gen.hostOps0_2, Gen.hostOps0_3, Gen.hostOps0_4, TRef.binary, TRef.ternary, TRef.unary, TRef.toBuf, TRef.ofBuf, cast_eq, List.flatten_cons, List.flatten_nil, List.append_nil, List.cons_append, List.nil_append]
  after_results_simp <;> rfl

end Stages

variable (x : FVec Ideal S12x768x20x512 .bf16) (b : Fin 12) (s : Fin 768) (h : Fin 20) (g : Fin 4)

/-- An activation in its group. -/
theorem grpV_apply (l : Fin 128) : grpV x (ix5 b s h g l) = x (ix4 b s h ⟨g.val * 128 + l.val, by omega⟩) := by
  pointwise [grpV]

/-- The maximum over the last axis at an index. -/
theorem red_apply (y : FVec Ideal S12x768x20x4x128 .f32) :
    Host.reduce FloatOps.maximumf y (constant S_ .f32 0xFF800000#32) reducesTo_S12x768x20x4x128_S12x768x20x4_d4 h_S_ (ix4 b s h g)
      = Finset.fold max (Ideal.ofBits FTy.f32 4286578688#32) (fun l => y (ix5 b s h g l)) Finset.univ := by
  pointwise []

/-- The group's largest magnitude at an index. -/
theorem maxV_apply :
    maxV x (ix4 b s h g) = Cert.Scale.vmax (fun l => x (ix4 b s h ⟨g.val * 128 + l.val, by omega⟩)) := by
  unfold maxV Cert.Scale.vmax
  rw [mulf_apply, red_apply]
  have e : ∀ l, Host.absf (grpV x) (ix5 b s h g l) = FloatOps.absf (F := Ideal) (φ := .f32) (x (ix4 b s h ⟨g.val * 128 + l.val, by omega⟩)) :=
    fun l => congrArg (FloatOps.absf (F := Ideal) (φ := .f32)) (grpV_apply x b s h g l)
  simp only [e]
  rfl

/-- The exponent read off a vector of largest magnitudes. -/
theorem exp_apply (M : FVec Ideal S12x768x20x4 .f32) :
    select (ori (cmpf .olt (M) (broadcastInDim S12x768x20x4 ![] bcast_S_S12x768x20x4 (constant S_ .f32 0x00800000#32))) (cmpf .oeq (M) (broadcastInDim S12x768x20x4 ![] bcast_S_S12x768x20x4 (constant S_ .f32 0x7F800000#32)))) (broadcastInDim S12x768x20x4 ![] bcast_S_S12x768x20x4 (constant S_ .f32 0x00000000#32)) (addf (Host.floor (Host.divf (Host.log (M)) (broadcastInDim S12x768x20x4 ![] bcast_S_S12x768x20x4 (Host.log (constant S_ .f32 0x40000000#32))))) (broadcastInDim S12x768x20x4 ![] bcast_S_S12x768x20x4 (constant S_ .f32 0x3F800000#32))) (ix4 b s h g)
      = Cert.Scale.refExp (M (ix4 b s h g)) := by
  pointwise []
  rfl

/-- The exponent of a group. -/
theorem expV_apply : expV x (ix4 b s h g) = Cert.Scale.refExp (maxV x (ix4 b s h g)) := exp_apply b s h g (maxV x)

/-- A power of two at an index. -/
theorem pow_apply (M : FVec Ideal S12x768x20x4 .f32) :
    Host.powf (broadcastInDim S12x768x20x4 ![] bcast_S_S12x768x20x4 (constant S_ .f32 0x40000000#32)) M (ix4 b s h g)
      = Ideal.pow (Ideal.ofBits FTy.f32 1073741824#32) (M (ix4 b s h g)) := by
  pointwise []

/-- A power of two to a negated exponent at an index. -/
theorem pow_neg_apply (M : FVec Ideal S12x768x20x4 .f32) :
    Host.powf (broadcastInDim S12x768x20x4 ![] bcast_S_S12x768x20x4 (constant S_ .f32 0x40000000#32)) (Host.negf M) (ix4 b s h g)
      = Ideal.pow (Ideal.ofBits FTy.f32 1073741824#32) (-(M (ix4 b s h g))) := by
  pointwise []

/-- The scale of a group. -/
theorem scaleV_apply : scaleV x (ix4 b s h g) = Cert.Scale.refScale (maxV x (ix4 b s h g)) := by
  unfold scaleV Cert.Scale.refScale
  rw [pow_apply, expV_apply]

/-- The reciprocal scale of a group. -/
theorem invV_apply : invV x (ix4 b s h g) = Cert.Scale.refInv (maxV x (ix4 b s h g)) := by
  unfold invV Cert.Scale.refInv
  rw [pow_neg_apply, expV_apply]

/-- A scaled and clipped activation at an index. -/
theorem qV_apply (d : Fin 512) :
    qV x (ix4 b s h d) = min (Ideal.ofBits FTy.f32 1138753536#32) (max (Ideal.ofBits FTy.f32 3286237184#32)
      (x (ix4 b s h d) * invV x (ix4 b s h ⟨d.val / 128, by omega⟩))) := by
  have e : grpV x (ix5 b s h ⟨d.val / 128, by omega⟩ ⟨d.val % 128, by omega⟩) = x (ix4 b s h d) := by
    rw [grpV_apply]
    exact congrArg (fun k => x (ix4 b s h k)) (Fin.ext (by show d.val / 128 * 128 + d.val % 128 = d.val; omega))
  rw [← e]
  unfold qV
  generalize grpV x = G
  generalize invV x = I
  pointwise []

end Cert.ReferenceIdeal.Vals

end
-- ==== Proof.RefRows.lean ====
/- The reference's decoded weights and products, read at an index.

   `weights_at` says that the reference's weight at row `k` is the value of its four-bit code times its group's scale, and
   `rows_at` says that a product is the sum over the 512 rows of the scaled activation times that weight. -/
module

public import proofs.«01_k».proof.Proof.Weights
public import proofs.«01_k».proof.Proof.Gen.ReferenceIdeal.Read

@[expose] public section

set_option maxRecDepth 16384

noncomputable section

namespace Cert.ReferenceIdeal.Rows

open Idealize.ShloMosaic Idealize.SL.Sem Cert.ReferenceIdeal Cert.ReferenceIdeal.Gen Cert.ReferenceIdeal.Read Cert.Decode

variable (x1 : (⟨S20x256x1408, .i8⟩ : BufTy).Contents (Elt Ideal)) (x2 : (⟨S20x16x1408, .i8⟩ : BufTy).Contents (Elt Ideal))
  (r1 : (⟨S12x768x20x512, .bf16⟩ : BufTy).Contents (Elt Ideal)) (e0 : (⟨S12x768x20x4, .f32⟩ : BufTy).Contents (Elt Ideal))

/-- The low halves of the packed bytes. -/
theorem lo_at (h : Fin 20) (r : Fin 256) (l : Fin 1408) :
    val_main_v54 (F := Ideal) x1 (ix4 h r 0 l) = IntOp.andi ((x1 (ix3 h r l)).setWidth 32) 15#32 := by
  rw [val_main_v54_apply, val_main_v51_apply, val_main_v49_apply, val_main_v50_apply, val_main_c_15_apply,
    show idx_main_v54 (ix4 h r 0 l) = ix3 h r l from (eq_ix3 _).trans rfl]

/-- The high halves of the packed bytes. -/
theorem hi_at (h : Fin 20) (r : Fin 256) (l : Fin 1408) :
    val_main_v55 (F := Ideal) x1 (ix4 h r 0 l) = IntOp.shrsi ArithUnit.host ((x1 (ix3 h r l)).setWidth 32) 4#32 := by
  rw [val_main_v55_apply, val_main_v53_apply, val_main_v49_apply, val_main_v52_apply, val_main_c_16_apply,
    show idx_main_v55 (ix4 h r 0 l) = ix3 h r l from (eq_ix3 _).trans rfl]

/-- Two stacked vectors at an index. -/
theorem stack_at (u v : Vec Ideal S20x256x1x1408 .i32) (h : Fin 20) (r : Fin 256) (z : Fin 2) (l : Fin 1408) :
    concatenate S20x256x2x1408 2 [⟨S20x256x1x1408, u⟩, ⟨S20x256x1x1408, v⟩] concatenates_S20x256x1x1408_S20x256x1x1408_S20x256x2x1408_d2 (ix4 h r z l)
      = if z.val = 0 then u (ix4 h r 0 l) else v (ix4 h r 0 l) := by
  obtain ⟨z, hz⟩ := z
  obtain rfl | rfl : z = 0 ∨ z = 1 := by omega
  · pointwise []
  · pointwise []

/-- The four-bit codes. -/
theorem code_at (h : Fin 20) (r : Fin 256) (z : Fin 2) (l : Fin 1408) :
    val_main_v56 (F := Ideal) x1 (ix4 h r z l) = nibble z.val (x1 (ix3 h r l)) := by
  unfold val_main_v56 nibble
  rw [stack_at, lo_at, hi_at]
  have hz : z.val % 2 = z.val := by omega
  rw [hz]

/-- The values of the four-bit codes. -/
theorem nib_at (i : S20x256x2x1408.Idx) : val_main_v81 (F := Ideal) x1 i = refNib (val_main_v56 (F := Ideal) x1 i) := by
  simp only [val_main_v81_apply, val_main_v80_apply, val_main_v79_apply, val_main_v78_apply, val_main_v77_apply, val_main_v76_apply,
    val_main_v75_apply, val_main_v74_apply, val_main_v73_apply, val_main_v72_apply, val_main_v71_apply, val_main_v70_apply,
    val_main_v69_apply, val_main_v68_apply, val_main_v67_apply, val_main_v66_apply, val_main_v65_apply, val_main_v64_apply,
    val_main_v63_apply, val_main_v62_apply, val_main_v61_apply, val_main_v60_apply, val_main_v59_apply, val_main_v58_apply,
    val_main_v57_apply, val_main_call4_v0_apply, val_main_call4_v1_apply, val_main_call5_v0_apply, val_main_call5_v1_apply,
    val_main_call7_v0_apply, val_main_call7_v1_apply, val_main_call8_v0_apply, val_main_call8_v1_apply]
  generalize val_main_v56 (F := Ideal) x1 i = w
  rfl

/-- The values of the eight-bit scales. -/
theorem e8_at (i : S20x16x1408.Idx) : val_main_v48 (F := Ideal) x2 i = refE8 (x2 i) := by
  simp only [val_main_v48_apply, val_main_v47_apply, val_main_v46_apply, val_main_v45_apply, val_main_v44_apply, val_main_v43_apply,
    val_main_v42_apply, val_main_v41_apply, val_main_v40_apply, val_main_v39_apply, val_main_v38_apply, val_main_v37_apply,
    val_main_v36_apply, val_main_call2_v1_apply, val_main_call3_v1_apply]
  generalize x2 i = w
  rfl

/-- A decoded weight. -/
theorem weights_at (h : Fin 20) (k : Fin 512) (l : Fin 1408) :
    val_main_v86 (F := Ideal) x1 x2 (ix3 h k l)
      = refNib (nibble k.val (x1 (ix3 h ⟨k.val / 2, by omega⟩ l))) * refE8 (x2 (ix3 h ⟨k.val / 32, by omega⟩ l)) := by
  have hh := h.isLt; have hk := k.isLt; have hl := l.isLt
  have e1 : idx_main_v86 (ix3 h k l) = ix4 h ⟨k.val / 32, by omega⟩ ⟨k.val % 32, by omega⟩ l := by
    refine (eq_ix4 _).trans ?_
    congr 1 <;> refine Fin.ext ?_
    · show ((h.val * 512 + k.val) * 1408 + l.val) / 720896 = h.val; omega
    · show ((h.val * 512 + k.val) * 1408 + l.val) / 45056 % 16 = k.val / 32; omega
    · show ((h.val * 512 + k.val) * 1408 + l.val) / 1408 % 32 = k.val % 32; omega
    · show ((h.val * 512 + k.val) * 1408 + l.val) % 1408 = l.val; omega
  have e2 : idx_main_v82 (ix4 h ⟨k.val / 32, by omega⟩ ⟨k.val % 32, by omega⟩ l) = ix4 h ⟨k.val / 2, by omega⟩ ⟨k.val % 2, by omega⟩ l := by
    refine (eq_ix4 _).trans ?_
    congr 1 <;> refine Fin.ext ?_
    · show (((h.val * 16 + k.val / 32) * 32 + k.val % 32) * 1408 + l.val) / 720896 = h.val; omega
    · show (((h.val * 16 + k.val / 32) * 32 + k.val % 32) * 1408 + l.val) / 2816 % 256 = k.val / 2; omega
    · show (((h.val * 16 + k.val / 32) * 32 + k.val % 32) * 1408 + l.val) / 1408 % 2 = k.val % 2; omega
    · show (((h.val * 16 + k.val / 32) * 32 + k.val % 32) * 1408 + l.val) % 1408 = l.val; omega
  rw [val_main_v86_apply, e1, val_main_v85_apply, val_main_v82_apply, e2, nib_at, code_at, val_main_v84_apply, val_main_v83_apply, e8_at,
    show idx_main_v83 (idx_main_v84 (ix4 h ⟨k.val / 32, by omega⟩ ⟨k.val % 32, by omega⟩ l)) = ix3 h ⟨k.val / 32, by omega⟩ l from (eq_ix3 _).trans rfl]
  have hz : nibble (k.val % 2) (x1 (ix3 h ⟨k.val / 2, by omega⟩ l)) = nibble k.val (x1 (ix3 h ⟨k.val / 2, by omega⟩ l)) := by
    unfold nibble
    rw [show k.val % 2 % 2 = k.val % 2 by omega]
  rw [hz]
  rfl

/-- A scaled activation. -/
theorem xs_at (b : Fin 12) (s : Fin 768) (h : Fin 20) (k : Fin 512) :
    val_main_v35 (F := Ideal) r1 e0 (ix4 b s h k) = r1 (ix4 b s h k) * e0 (ix4 b s h ⟨k.val / 128, by omega⟩) := by
  have hb := b.isLt; have hs := s.isLt; have hh := h.isLt; have hk := k.isLt
  have e1 : idx_main_v35 (ix4 b s h k) = ix5 b s h ⟨k.val / 128, by omega⟩ ⟨k.val % 128, by omega⟩ := by
    refine (eq_ix5 _).trans ?_
    congr 1 <;> refine Fin.ext ?_
    · show (((b.val * 768 + s.val) * 20 + h.val) * 512 + k.val) / 7864320 = b.val; omega
    · show (((b.val * 768 + s.val) * 20 + h.val) * 512 + k.val) / 10240 % 768 = s.val; omega
    · show (((b.val * 768 + s.val) * 20 + h.val) * 512 + k.val) / 512 % 20 = h.val; omega
    · show (((b.val * 768 + s.val) * 20 + h.val) * 512 + k.val) / 128 % 4 = k.val / 128; omega
    · show (((b.val * 768 + s.val) * 20 + h.val) * 512 + k.val) % 128 = k.val % 128; omega
  have e2 : idx_main_v30 (ix5 b s h ⟨k.val / 128, by omega⟩ ⟨k.val % 128, by omega⟩) = ix4 b s h k := by
    refine (eq_ix4 _).trans ?_
    congr 1 <;> refine Fin.ext ?_
    · show ((((b.val * 768 + s.val) * 20 + h.val) * 4 + k.val / 128) * 128 + k.val % 128) / 7864320 = b.val; omega
    · show ((((b.val * 768 + s.val) * 20 + h.val) * 4 + k.val / 128) * 128 + k.val % 128) / 10240 % 768 = s.val; omega
    · show ((((b.val * 768 + s.val) * 20 + h.val) * 4 + k.val / 128) * 128 + k.val % 128) / 512 % 20 = h.val; omega
    · show ((((b.val * 768 + s.val) * 20 + h.val) * 4 + k.val / 128) * 128 + k.val % 128) % 512 = k.val; omega
  rw [val_main_v35_apply, e1, val_main_v34_apply, val_main_v30_apply, e2, val_main_v33_apply, val_main_v32_apply, val_main_v31_apply,
    show idx_main_v32 (idx_main_v33 (ix5 b s h ⟨k.val / 128, by omega⟩ ⟨k.val % 128, by omega⟩)) = ix4 b s h ⟨k.val / 128, by omega⟩ from (eq_ix4 _).trans rfl]
  rfl

/-- A product. -/
theorem rows_at (b : Fin 12) (s : Fin 768) (h : Fin 20) (l : Fin 1408) :
    val_main_v92 (F := Ideal) x1 x2 r1 e0 (ix4 b s h l)
      = ∑ k : Fin 512, (r1 (ix4 b s h k) * e0 (ix4 b s h ⟨k.val / 128, by omega⟩))
          * (refNib (nibble k.val (x1 (ix3 h ⟨k.val / 2, by omega⟩ l))) * refE8 (x2 (ix3 h ⟨k.val / 32, by omega⟩ l))) := by
  have hb := b.isLt; have hs := s.isLt; have hh := h.isLt; have hl := l.isLt
  have e1 : idx_main_v91 (idx_main_v92 (ix4 b s h l)) = ix3 h ⟨b.val * 768 + s.val, by omega⟩ l := by
    refine (eq_ix3 _).trans ?_
    congr 1 <;> refine Fin.ext ?_
    · show (((b.val * 768 + s.val) * 20 + h.val) * 1408 + l.val) / 1408 % 20 = h.val; omega
    · show (((b.val * 768 + s.val) * 20 + h.val) * 1408 + l.val) / 28160 = b.val * 768 + s.val; omega
    · show (((b.val * 768 + s.val) * 20 + h.val) * 1408 + l.val) % 1408 = l.val; omega
  rw [val_main_v92_apply, val_main_v91_apply, e1, val_main_v90_apply]
  refine (val_main_v89_apply x1 x2 r1 e0 _).trans (Finset.sum_congr rfl fun k _ => ?_)
  have hk := k.isLt
  have e2 : idx_main_v87 (idx_main_v88 (lidx_main_v89 (ix3 h ⟨b.val * 768 + s.val, by omega⟩ l) k)) = ix4 b s h k := by
    refine (eq_ix4 _).trans ?_
    congr 1 <;> refine Fin.ext ?_
    · show (((b.val * 768 + s.val) * 20 + h.val) * 512 + k.val) / 7864320 = b.val; omega
    · show (((b.val * 768 + s.val) * 20 + h.val) * 512 + k.val) / 10240 % 768 = s.val; omega
    · show (((b.val * 768 + s.val) * 20 + h.val) * 512 + k.val) / 512 % 20 = h.val; omega
    · show (((b.val * 768 + s.val) * 20 + h.val) * 512 + k.val) % 512 = k.val; omega
  have e3 : ridx_main_v89 (ix3 h ⟨b.val * 768 + s.val, by omega⟩ l) k = ix3 h k l := (eq_ix3 _).trans rfl
  rw [val_main_v88_apply, val_main_v87_apply, e2, e3, xs_at, weights_at]

end Cert.ReferenceIdeal.Rows

end
-- ==== Proof.RefRun.lean ====
/- The reference's three results, as functions of its arguments.

   `region_codes` and `region_values` read the two arrays of the rounding region: over the extended reals both hold the scaled
   and clipped activations. `run` is the reference's run with its results stated by `yF`, `qV` and `scaleV`. -/
module

public import proofs.«01_k».proof.Proof.RefVals
public import proofs.«01_k».proof.Proof.RefRows
public import Idealize.ShloMosaic.Lib.Pipeline.ValueKit
public import Idealize.ShloMosaic.Lib.Claim

@[expose] public section

set_option maxRecDepth 16384

noncomputable section

namespace Cert.ReferenceIdeal.Vals

open Idealize.ShloMosaic Idealize.ShloMosaic.TcCoe Idealize.SL.Sem Idealize.ShloMosaic.StableHlo
open Cert.ReferenceIdeal Cert.ReferenceIdeal.Gen Cert.ReferenceIdeal.Value Cert.Decode
open Idealize.ShloMosaic.Pipeline (Dat)

variable (m : (ℓ : Loc nD τ sig) → Buf (Elt Ideal) ℓ) (c : Dev nD)

/-- The rounding region has one point and its blocks are whole arrays. -/
theorem idx : ∀ t : Fin cfg0.N, win0_0.index t = ![0, 0, 0, 0] ∧ win0_1.index t = ![0, 0, 0, 0] ∧ win0_2.index t = ![0, 0, 0, 0] :=
  (by decide +kernel : ∀ t : Fin grid0.N, _)

/-- The stored codes at an index. -/
theorem pay1_at (v : Vec Ideal S12x768x20x512 .f32) (j : S12x768x20x512.Idx) : k0_pay1 v j = v j := by
  obtain ⟨a, b, h, d, rfl⟩ : ∃ a b h d, j = ix4 a b h d := ⟨_, _, _, _, eq_ix4 j⟩
  pointwise [k0_pay1]

/-- The stored values at an index. -/
theorem pay2_at (v : Vec Ideal S12x768x20x512 .f32) (j : S12x768x20x512.Idx) : k0_pay2 v j = v j := by
  obtain ⟨a, b, h, d, rfl⟩ : ∃ a b h d, j = ix4 a b h d := ⟨_, _, _, _, eq_ix4 j⟩
  pointwise [k0_pay2, k0_pay1]

/-- The region's array of codes. -/
theorem region_codes : reg_main_v29_0 m c = (qV (m ((c : Thread nD τ).loc main_arg0)) : FVec Ideal S12x768x20x512 .f32) := by
  rw [← entry_q]
  unfold reg_main_v29_0
  refine (dats m 0 c).arrAt_eq_of_after_last 1 t0_0 (by decide +kernel) _ fun j => ?_
  blk_simp
  rw [after0_1]
  frame_out
  rw [pay1_at]
  blk_point [iblk, idx t0_0]

/-- The region's array of values. -/
theorem region_values : reg_main_v29_1 m c = (qV (m ((c : Thread nD τ).loc main_arg0)) : FVec Ideal S12x768x20x512 .f32) := by
  rw [← entry_q]
  unfold reg_main_v29_1
  refine (dats m 0 c).arrAt_eq_of_after_last 2 t0_0 (by decide +kernel) _ fun j => ?_
  blk_simp
  rw [after0_2]
  frame_out
  rw [pay2_at]
  blk_point [iblk, idx t0_0]

/-- The products, as a function of the three arguments. -/
def yF (x : FVec Ideal S12x768x20x512 .bf16) (w : Vec Ideal S20x256x1408 .i8) (e : Vec Ideal S20x16x1408 .i8) :
    FVec Ideal S12x768x20x1408 .bf16 :=
  Read.val_main_v92 (F := Ideal) w e (qV x) (scaleV x)

/-- The reference's run: its three results and its arguments. -/
theorem run_vals (g : Dev nD → PrngReg) :
    θ_run (defs (F := Ideal)) (onTc (τ := τ) (main (F := Ideal))) ⟨m, fun _ => 0, g⟩ fun r => ∀ c : Dev nD,
      r.2.mem ((c.tc : Thread nD τ).loc main_v92) = yF (m ((c.tc : Thread nD τ).loc main_arg0)) (m ((c.tc : Thread nD τ).loc main_arg1)) (m ((c.tc : Thread nD τ).loc main_arg2))
      ∧ r.2.mem ((c.tc : Thread nD τ).loc main_v29_0) = (qV (m ((c.tc : Thread nD τ).loc main_arg0)) : FVec Ideal S12x768x20x512 .f32)
      ∧ r.2.mem ((c.tc : Thread nD τ).loc main_v20) = (scaleV (F := Ideal) (m ((c.tc : Thread nD τ).loc main_arg0)) : FVec Ideal S12x768x20x4 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m g)
  obtain ⟨h1, h2, h3, h4⟩ := h c
  refine ⟨h1.trans ?_, h2.trans (region_codes m c), h3, h4⟩
  refine (Read.val_main_v92_eq (exitV m c)).trans ?_
  rw [exit_main_arg1, exit_main_arg2, exit_main_v29_1, exit_scale, region_values]
  rfl

end Cert.ReferenceIdeal.Vals

end
-- ==== Proof.Equal.lean ====
/- The kernel's results are the reference's.

   On activations within the stated range, `codes_eq`, `scales_eq` and `products_eq` compare the two programs' results entry by
   entry: the two ways to the power-of-two scale agree (`both_eq`), and so do the rest. -/
module

public import proofs.«01_k».proof.Proof.KernelRun
public import proofs.«01_k».proof.Proof.RefRun

@[expose] public section

set_option maxRecDepth 16384

noncomputable section

namespace Cert.Equal

open Idealize.ShloMosaic Cert.Scale Cert.Decode
open Cert.KernelIdeal.Group (xT xT_apply arow codesF scalesF rowsF weight)
open Cert.ReferenceIdeal.Vals (qV scaleV invV maxV maxV_apply scaleV_apply invV_apply qV_apply)
open Cert.ReferenceIdeal (S12x768x20x512 S12x768x20x4 S12x768x20x1408 S20x256x1408 S20x16x1408)

variable (x : FVec Ideal S12x768x20x512 .bf16) (w : Vec Ideal S20x256x1408 .i8) (e : Vec Ideal S20x16x1408 .i8)

/-- A group of a row, in the reference's largest magnitudes. -/
theorem max_eq (b : Fin 12) (s : Fin 768) (h : Fin 20) (k : Fin 512) (g : Fin 4) (hg : g.val = k.val / 128) :
    vmax (grp (arow (xT x) b h s) k) = maxV x (ix4 b s h g) := by
  rw [maxV_apply]
  apply congrArg
  funext l
  refine (xT_apply x b h s _).trans ?_
  exact congrArg (fun q => x (ix4 b s h q)) (Fin.ext (by show k.val / 128 * 128 + l.val = g.val * 128 + l.val; rw [hg]))

section Range
variable (hx : ∀ i, InRange (x i))
include hx

/-- The two scales of a group. -/
theorem both (b : Fin 12) (s : Fin 768) (h : Fin 20) (k : Fin 512) (g : Fin 4) (hg : g.val = k.val / 128) :
    scale (vmax (grp (arow (xT x) b h s) k)) = scaleV x (ix4 b s h g)
      ∧ Scale.inv (vmax (grp (arow (xT x) b h s) k)) = invV x (ix4 b s h g) := by
  have r := vmax_range (grp (arow (xT x) b h s) k) (fun l => by
    show InRange (xT x (ix4 b h s _))
    rw [xT_apply]
    exact hx _)
  have q := both_eq _ r.1 r.2
  rw [scaleV_apply, invV_apply, ← max_eq x b s h k g hg]
  exact q

/-- A code. -/
theorem code_eq (b : Fin 12) (s : Fin 768) (h : Fin 20) (k : Fin 512) :
    code (arow (xT x) b h s) k = qV x (ix4 b s h k) := by
  unfold code
  rw [(both x hx b s h k ⟨k.val / 128, by omega⟩ rfl).2, qV_apply]
  show clip (xT x (ix4 b h s k)) _ = _
  rw [xT_apply]
  rfl

/-- The codes are the reference's. -/
theorem codes_eq : Cert.KernelIdeal.Group.qF x = (qV x : FVec Ideal S12x768x20x512 .f32) := by
  funext i
  obtain ⟨b, s, h, k, rfl⟩ : ∃ b s h k, i = ix4 b s h k := ⟨_, _, _, _, eq_ix4 i⟩
  rw [Cert.KernelIdeal.Group.qF_apply]
  exact code_eq x hx b s h k

/-- The scales are the reference's. -/
theorem scales_eq : Cert.KernelIdeal.Group.sF x = scaleV x := by
  funext i
  obtain ⟨b, s, h, g, rfl⟩ : ∃ b s h g, i = ix4 b s h g := ⟨_, _, _, _, eq_ix4 i⟩
  rw [Cert.KernelIdeal.Group.sF_apply]
  exact (both x hx b s h ⟨g.val * 128, by omega⟩ g (by show g.val = g.val * 128 / 128; omega)).1

/-- The products are the reference's. -/
theorem products_eq : Cert.KernelIdeal.Group.yF x w e = Cert.ReferenceIdeal.Vals.yF x w e := by
  funext i
  obtain ⟨b, s, h, l, rfl⟩ : ∃ b s h l, i = ix4 b s h l := ⟨_, _, _, _, eq_ix4 i⟩
  rw [Cert.KernelIdeal.Group.yF_apply]
  refine Eq.trans ?_ (Cert.ReferenceIdeal.Rows.rows_at w e (qV x) (scaleV x) b s h l).symm
  show ∑ k : Fin 512, quant (arow (xT x) b h s) k * weight w e h k l = _
  refine Finset.sum_congr rfl fun k _ => ?_
  unfold quant weight
  rw [code_eq x hx, (both x hx b s h k ⟨k.val / 128, by omega⟩ rfl).1]

end Range

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Gen.ReferenceIdeal.Run
public import proofs.«01_k».proof.Proof.Gen.ReferenceIdeal.Read
public import proofs.«01_k».proof.Proof.Equal
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The rewritten pair of operations, a pack of two halves and the reading of the words as rows, is what the rule says. -/
theorem preserves : Cert.preserves_Kernel_KernelIdeal :=
  ⟨IdealRules.bf16_pair.packStatement _, IdealRules.bf16_pair.statement _ _⟩

/-- From activations in the stated range, the kernel and the reference end with equal results, all three. -/
theorem algebraic : @Cert.algebraic_KernelIdeal_ReferenceIdeal_pre_in_range Cert.KernelIdeal.Gen.facts Cert.ReferenceIdeal.Gen.facts
    Cert.Pre_in_range.Gen.facts := by
  intro m g m' g' hpre hagree
  refine ⟨_, _, _, Cert.KernelIdeal.Group.run_vals m g, ?_⟩
  refine (θ_run Cert.ReferenceIdeal.defs _ _).mono (fun r h c => ?_) (Cert.ReferenceIdeal.Vals.run_vals m' g')
  obtain ⟨h1, h2, h3, h4⟩ := h c
  obtain ⟨a0, a1, a2⟩ := hagree c
  have hx := fun i => Cert.Pre_in_range.inRange _ _ _ (hpre c) i
  refine ⟨h1.trans ?_, h2.trans ?_, h3.trans ?_, h4⟩
  · rw [a0, a1, a2]
    exact (Cert.Equal.products_eq _ _ _ hx).symm
  · rw [a0]
    exact (Cert.Equal.codes_eq _ hx).symm
  · rw [a0]
    exact (Cert.Equal.scales_eq _ hx).symm

theorem claim : Cert.Claim := ⟨Cert.Kernel.Gen.facts, Cert.KernelIdeal.Gen.facts, Cert.ReferenceIdeal.Gen.facts, Cert.Pre_in_range.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  preserves, algebraic⟩

end Cert.Proof

end
